-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x3x512x512 : Shape := ⟨4, ![16, 3, 512, 512]⟩
abbrev S3x3 : Shape := ⟨2, ![3, 3]⟩
abbrev S3 : Shape := ⟨1, ![3]⟩
abbrev S3x3x768 : Shape := ⟨3, ![3, 3, 768]⟩
abbrev S3x768 : Shape := ⟨2, ![3, 768]⟩
abbrev S3x768x200 : Shape := ⟨3, ![3, 768, 200]⟩
abbrev S3x768x400 : Shape := ⟨3, ![3, 768, 400]⟩
abbrev S1x3 : Shape := ⟨2, ![1, 3]⟩
abbrev S3x200x768 : Shape := ⟨3, ![3, 200, 768]⟩
abbrev S3x400x768 : Shape := ⟨3, ![3, 400, 768]⟩
abbrev S16x200 : Shape := ⟨2, ![16, 200]⟩
abbrev S16x400 : Shape := ⟨2, ![16, 400]⟩
abbrev S16x100x2 : Shape := ⟨3, ![16, 100, 2]⟩
abbrev S16x100x4 : Shape := ⟨3, ![16, 100, 4]⟩
abbrev S16x3x64x512 : Shape := ⟨4, ![16, 3, 64, 512]⟩
abbrev S16x3 : Shape := ⟨2, ![16, 3]⟩
abbrev S2 : Shape := ⟨1, ![2]⟩
abbrev S1 : Shape := ⟨1, ![1]⟩
abbrev S_ : Shape := ⟨0, ![]⟩
abbrev S16x1 : Shape := ⟨2, ![16, 1]⟩
abbrev S1x3x768 : Shape := ⟨3, ![1, 3, 768]⟩
abbrev S16x768 : Shape := ⟨2, ![16, 768]⟩
abbrev S1x768 : Shape := ⟨2, ![1, 768]⟩
abbrev S1x200x768 : Shape := ⟨3, ![1, 200, 768]⟩
abbrev S200x768 : Shape := ⟨2, ![200, 768]⟩
abbrev S1x400x768 : Shape := ⟨3, ![1, 400, 768]⟩
abbrev S400x768 : Shape := ⟨2, ![400, 768]⟩

abbrev nBuf : Space → Nat
  | .hbm => 14
  | .vmem => 11
  | .smem => 0
  | _ => 0

abbrev bufTy : (tb : Table) → Fin (tcTables nBuf tb) → BufTy
  | .hbm, ⟨0, _⟩ => ⟨S16x3x512x512, .f32⟩
  | .hbm, ⟨1, _⟩ => ⟨S3x3, .f32⟩
  | .hbm, ⟨2, _⟩ => ⟨S3, .f32⟩
  | .hbm, ⟨3, _⟩ => ⟨S3x3x768, .f32⟩
  | .hbm, ⟨4, _⟩ => ⟨S3x768, .f32⟩
  | .hbm, ⟨5, _⟩ => ⟨S3x768x200, .f32⟩
  | .hbm, ⟨6, _⟩ => ⟨S3x768x400, .f32⟩
  | .hbm, ⟨7, _⟩ => ⟨S1x3, .f32⟩
  | .hbm, ⟨8, _⟩ => ⟨S3x200x768, .f32⟩
  | .hbm, ⟨9, _⟩ => ⟨S3x400x768, .f32⟩
  | .hbm, ⟨10, _⟩ => ⟨S16x200, .f32⟩
  | .hbm, ⟨11, _⟩ => ⟨S16x400, .f32⟩
  | .hbm, ⟨12, _⟩ => ⟨S16x100x2, .f32⟩
  | .hbm, ⟨13, _⟩ => ⟨S16x100x4, .f32⟩
  | .local _ .vmem, ⟨0, _⟩ => ⟨S16x3x64x512, .f32⟩
  | .local _ .vmem, ⟨1, _⟩ => ⟨S16x3x64x512, .f32⟩
  | .local _ .vmem, ⟨2, _⟩ => ⟨S3x3, .f32⟩
  | .local _ .vmem, ⟨3, _⟩ => ⟨S1x3, .f32⟩
  | .local _ .vmem, ⟨4, _⟩ => ⟨S3x3x768, .f32⟩
  | .local _ .vmem, ⟨5, _⟩ => ⟨S3x768, .f32⟩
  | .local _ .vmem, ⟨6, _⟩ => ⟨S16x200, .f32⟩
  | .local _ .vmem, ⟨7, _⟩ => ⟨S16x400, .f32⟩
  | .local _ .vmem, ⟨8, _⟩ => ⟨S16x3, .f32⟩
  | .local _ .vmem, ⟨9, _⟩ => ⟨S3x200x768, .f32⟩
  | .local _ .vmem, ⟨10, _⟩ => ⟨S3x400x768, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3_0 : Ref sig .tc := ⟨.hbm, 10, rfl⟩
abbrev main_call0_v3_1 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_8 : BitVec 32 := 0#32
  let v12 : BitVec 1 := Scalar.cmpi .ne v11 c0_i32_8
  v12

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x3x512x512 : Shape := ⟨4, ![16, 3, 512, 512]⟩
abbrev S3x3 : Shape := ⟨2, ![3, 3]⟩
abbrev S3 : Shape := ⟨1, ![3]⟩
abbrev S3x3x768 : Shape := ⟨3, ![3, 3, 768]⟩
abbrev S3x768 : Shape := ⟨2, ![3, 768]⟩
abbrev S3x768x200 : Shape := ⟨3, ![3, 768, 200]⟩
abbrev S3x768x400 : Shape := ⟨3, ![3, 768, 400]⟩
abbrev S_ : Shape := ⟨0, ![]⟩
abbrev S16x3 : Shape := ⟨2, ![16, 3]⟩
abbrev S1x3 : Shape := ⟨2, ![1, 3]⟩
abbrev S16 : Shape := ⟨1, ![16]⟩
abbrev S16x1 : Shape := ⟨2, ![16, 1]⟩
abbrev S1 : Shape := ⟨1, ![1]⟩
abbrev S1x1 : Shape := ⟨2, ![1, 1]⟩
abbrev S16x3x768 : Shape := ⟨3, ![16, 3, 768]⟩
abbrev S16x768 : Shape := ⟨2, ![16, 768]⟩
abbrev S16x768x200 : Shape := ⟨3, ![16, 768, 200]⟩
abbrev S16x768x400 : Shape := ⟨3, ![16, 768, 400]⟩
abbrev S16x200 : Shape := ⟨2, ![16, 200]⟩
abbrev S16x100x2 : Shape := ⟨3, ![16, 100, 2]⟩
abbrev S16x400 : Shape := ⟨2, ![16, 400]⟩
abbrev S16x100x4 : Shape := ⟨3, ![16, 100, 4]⟩

abbrev nBuf : Space → Nat
  | .hbm => 130
  | .vmem => 0
  | .smem => 0
  | _ => 0

abbrev hbmTy0_0 (i : Nat) : BufTy := match i % 128 with
  | 0 => ⟨S16x3x512x512, .f32⟩
  | 1 => ⟨S3x3, .f32⟩
  | 2 => ⟨S3, .f32⟩
  | 3 => ⟨S3x3x768, .f32⟩
  | 4 => ⟨S3x768, .f32⟩
  | 5 => ⟨S3x768x200, .f32⟩
  | 6 => ⟨S3x768x400, .f32⟩
  | 7 => ⟨S_, .f32⟩
  | 8 => ⟨S16x3, .f32⟩
  | 9 => ⟨S_, .f32⟩
  | 10 => ⟨S16x3, .f32⟩
  | 11 => ⟨S16x3, .f32⟩
  | 12 => ⟨S16x3, .f32⟩
  | 13 => ⟨S1x3, .f32⟩
  | 14 => ⟨S16x3, .f32⟩
  | 15 => ⟨S16x3, .f32⟩
  | 16 => ⟨S16x3, .i32⟩
  | 17 => ⟨S_, .f32⟩
  | 18 => ⟨S_, .i32⟩
  | 19 => ⟨S16, .f32⟩
  | 20 => ⟨S16, .i32⟩
  | 21 => ⟨S_, .i32⟩
  | 22 => ⟨S16, .i32⟩
  | 23 => ⟨S16, .i1⟩
  | 24 => ⟨S_, .i32⟩
  | 25 => ⟨S16, .i32⟩
  | 26 => ⟨S16, .i32⟩
  | 27 => ⟨S16, .i32⟩
  | 28 => ⟨S16x1, .i32⟩
  | 29 => ⟨S1, .i32⟩
  | 30 => ⟨S_, .i32⟩
  | 31 => ⟨S16x1, .i32⟩
  | 32 => ⟨S16x1, .i1⟩
  | 33 => ⟨S1x1, .i32⟩
  | 34 => ⟨S16x1, .i32⟩
  | 35 => ⟨S16x1, .i1⟩
  | 36 => ⟨S16x1, .i1⟩
  | 37 => ⟨S_, .i1⟩
  | 38 => ⟨S16, .i1⟩
  | 39 => ⟨S16x3x768, .f32⟩
  | 40 => ⟨S16x3x768, .i1⟩
  | 41 => ⟨S_, .f32⟩
  | 42 => ⟨S16x3x768, .f32⟩
  | 43 => ⟨S16x3x768, .f32⟩
  | 44 => ⟨S_, .i32⟩
  | 45 => ⟨S16, .i32⟩
  | 46 => ⟨S16, .i1⟩
  | 47 => ⟨S_, .i32⟩
  | 48 => ⟨S16, .i32⟩
  | 49 => ⟨S16, .i32⟩
  | 50 => ⟨S16, .i32⟩
  | 51 => ⟨S16x1, .i32⟩
  | 52 => ⟨S1, .i32⟩
  | 53 => ⟨S_, .i32⟩
  | 54 => ⟨S16x1, .i32⟩
  | 55 => ⟨S16x1, .i1⟩
  | 56 => ⟨S1x1, .i32⟩
  | 57 => ⟨S16x1, .i32⟩
  | 58 => ⟨S16x1, .i1⟩
  | 59 => ⟨S16x1, .i1⟩
  | 60 => ⟨S_, .i1⟩
  | 61 => ⟨S16, .i1⟩
  | 62 => ⟨S16x768, .f32⟩
  | 63 => ⟨S16x768, .i1⟩
  | 64 => ⟨S_, .f32⟩
  | 65 => ⟨S16x768, .f32⟩
  | 66 => ⟨S16x768, .f32⟩
  | 67 => ⟨S_, .i32⟩
  | 68 => ⟨S16, .i32⟩
  | 69 => ⟨S16, .i1⟩
  | 70 => ⟨S_, .i32⟩
  | 71 => ⟨S16, .i32⟩
  | 72 => ⟨S16, .i32⟩
  | 73 => ⟨S16, .i32⟩
  | 74 => ⟨S16x1, .i32⟩
  | 75 => ⟨S1, .i32⟩
  | 76 => ⟨S_, .i32⟩
  | 77 => ⟨S16x1, .i32⟩
  | 78 => ⟨S16x1, .i1⟩
  | 79 => ⟨S1x1, .i32⟩
  | 80 => ⟨S16x1, .i32⟩
  | 81 => ⟨S16x1, .i1⟩
  | 82 => ⟨S16x1, .i1⟩
  | 83 => ⟨S_, .i1⟩
  | 84 => ⟨S16, .i1⟩
  | 85 => ⟨S16x768x200, .f32⟩
  | 86 => ⟨S16x768x200, .i1⟩
  | 87 => ⟨S_, .f32⟩
  | 88 => ⟨S16x768x200, .f32⟩
  | 89 => ⟨S16x768x200, .f32⟩
  | 90 => ⟨S_, .i32⟩
  | 91 => ⟨S16, .i32⟩
  | 92 => ⟨S16, .i1⟩
  | 93 => ⟨S_, .i32⟩
  | 94 => ⟨S16, .i32⟩
  | 95 => ⟨S16, .i32⟩
  | 96 => ⟨S16, .i32⟩
  | 97 => ⟨S16x1, .i32⟩
  | 98 => ⟨S1, .i32⟩
  | 99 => ⟨S_, .i32⟩
  | 100 => ⟨S16x1, .i32⟩
  | 101 => ⟨S16x1, .i1⟩
  | 102 => ⟨S1x1, .i32⟩
  | 103 => ⟨S16x1, .i32⟩
  | 104 => ⟨S16x1, .i1⟩
  | 105 => ⟨S16x1, .i1⟩
  | 106 => ⟨S_, .i1⟩
  | 107 => ⟨S16, .i1⟩
  | 108 => ⟨S16x768x400, .f32⟩
  | 109 => ⟨S16x768x400, .i1⟩
  | 110 => ⟨S_, .f32⟩
  | 111 => ⟨S16x768x400, .f32⟩
  | 112 => ⟨S16x768x400, .f32⟩
  | 113 => ⟨S16x768, .f32⟩
  | 114 => ⟨S16x768, .f32⟩
  | 115 => ⟨S_, .f32⟩
  | 116 => ⟨S16x768, .f32⟩
  | 117 => ⟨S16x768, .f32⟩
  | 118 => ⟨S16x200, .f32⟩
  | 119 => ⟨S16x100x2, .f32⟩
  | 120 => ⟨S16x400, .f32⟩
  | 121 => ⟨S16x400, .f32⟩
  | 122 => ⟨S16x400, .f32⟩
  | 123 => ⟨S_, .f32⟩
  | 124 => ⟨S16x400, .f32⟩
  | 125 => ⟨S16x400, .f32⟩
  | 126 => ⟨S_, .f32⟩
  | 127 => ⟨S16x400, .f32⟩
  | _ => ⟨S16x3x512x512, .f32⟩

abbrev hbmTy0_1 (i : Nat) : BufTy := match i % 128 with
  | 0 => ⟨S16x400, .f32⟩
  | 1 => ⟨S16x100x4, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v7 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_call1_cst : Ref sig .tc := ⟨.hbm, 41, rfl⟩
abbrev main_call1_v15 : Ref sig .tc := ⟨.hbm, 42, rfl⟩
abbrev main_v8 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v9 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_call3_cst : Ref sig .tc := ⟨.hbm, 87, rfl⟩
abbrev main_call3_v15 : Ref sig .tc := ⟨.hbm, 88, rfl⟩
abbrev main_v10 : Ref sig .tc := ⟨.hbm, 89, rfl⟩
abbrev main_call4_c : Ref sig .tc := ⟨.hbm, 90, rfl⟩
abbrev main_call4_v0 : Ref sig .tc := ⟨.hbm, 91, rfl⟩
abbrev main_call4_v1 : Ref sig .tc := ⟨.hbm, 92, rfl⟩
abbrev main_call4_c_0 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_c_1 : Ref sig .tc := ⟨.hbm, 98, rfl⟩
abbrev main_call4_c_2 : Ref sig .tc := ⟨.hbm, 99, rfl⟩
abbrev main_call4_v6 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_3 : Ref sig .tc := ⟨.hbm, 106, rfl⟩
abbrev main_call4_v12 : Ref sig .tc := ⟨.hbm, 107, rfl⟩
abbrev main_call4_v13 : Ref sig .tc := ⟨.hbm, 108, rfl⟩
abbrev main_call4_v14 : Ref sig .tc := ⟨.hbm, 109, rfl⟩
abbrev main_call4_cst : Ref sig .tc := ⟨.hbm, 110, rfl⟩
abbrev main_call4_v15 : Ref sig .tc := ⟨.hbm, 111, rfl⟩
abbrev main_v11 : Ref sig .tc := ⟨.hbm, 112, rfl⟩
abbrev main_v12 : Ref sig .tc := ⟨.hbm, 113, rfl⟩
abbrev main_v13 : Ref sig .tc := ⟨.hbm, 114, rfl⟩
abbrev main_call5_cst : Ref sig .tc := ⟨.hbm, 115, rfl⟩
abbrev main_call5_v0 : Ref sig .tc := ⟨.hbm, 116, rfl⟩
abbrev main_v14 : Ref sig .tc := ⟨.hbm, 117, rfl⟩
abbrev main_v15 : Ref sig .tc := ⟨.hbm, 118, rfl⟩
abbrev main_v16 : Ref sig .tc := ⟨.hbm, 119, rfl⟩
abbrev main_v17 : Ref sig .tc := ⟨.hbm, 120, rfl⟩
abbrev main_v18 : Ref sig .tc := ⟨.hbm, 121, rfl⟩
abbrev main_v19 : Ref sig .tc := ⟨.hbm, 122, rfl⟩
abbrev main_cst_1 : Ref sig .tc := ⟨.hbm, 123, rfl⟩
abbrev main_v20 : Ref sig .tc := ⟨.hbm, 124, rfl⟩
abbrev main_v21 : Ref sig .tc := ⟨.hbm, 125, rfl⟩
abbrev main_cst_2 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩

abbrev nD : Nat := 1
abbrev τ : Topo := Topo.v7x

variable {F : FTy → Type} [FloatOps F]
-- ==== Proof.KernelIdealRun.lean ====
/-
  The run of the kernel program: what its body does at each grid point, and what the two results hold afterwards.

  The body starts two copies out of HBM at the first point and waits for them at the last, so between the points the
  two copies are in flight. The invariant between the points is: before the first point and after the last everything
  is at home (`Pipeline.ΦD`); in between, the accumulator holds the running sum over the row blocks already seen, and
  the two copies are in flight, each owning its destination and the part of HBM it reads.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's buffers, the copies in flight, the values -/

/-- The accumulator. -/
abbrev accM : Memref sig .tc .vmem S16x3 .f32 := Memref.whole cc0_scratch0
/-- The two weight buffers the copies fill. -/
abbrev wlM : Memref sig .tc .vmem S3x200x768 .f32 := Memref.whole cc0_scratch1
abbrev wbM : Memref sig .tc .vmem S3x400x768 .f32 := Memref.whole cc0_scratch2
/-- The two weight arrays left in HBM, which the copies read. -/
abbrev hlM : Memref sig .tc .hbm S3x200x768 .f32 := Memref.whole main_call0_v1
abbrev hbM : Memref sig .tc .hbm S3x400x768 .f32 := Memref.whole main_call0_v2
/-- The contents of the buffer of a memref, and that buffer held whole at some contents. -/
abbrev BufAt (c : Dev nD) {sp : Space} {S : Shape} {e : EltTy} (M : Memref sig .tc sp S e) : Type := Buf (Elt F) (M.view.loc (c : Thread nD τ))
abbrev ptAt (c : Dev nD) {sp : Space} {S : Shape} {e : EltTy} (M : Memref sig .tc sp S e) (f : BufAt (F := F) c M) : sProp 𝕄 :=
  M.view.loc (c : Thread nD τ) ↦{fullShare} f

/-- The body on the two HBM arrays and its own scratch. -/
abbrev body (i : grid0.Coords)
    (arg1 : Memref sig .tc .vmem S16x3x64x512 .f32) (harg1 : arg1.IsWhole)
    (arg2 : Memref sig .tc .vmem S3x3 .f32) (harg2 : arg2.IsWhole) (arg3 : Memref sig .tc .vmem S1x3 .f32) (harg3 : arg3.IsWhole)
    (arg4 : Memref sig .tc .vmem S3x3x768 .f32) (harg4 : arg4.IsWhole) (arg5 : Memref sig .tc .vmem S3x768 .f32) (harg5 : arg5.IsWhole)
    (arg8 : Memref sig .tc .vmem S16x200 .f32) (harg8 : arg8.IsWhole) (arg9 : Memref sig .tc .vmem S16x400 .f32) (harg9 : arg9.IsWhole) :
    Prog (TpuEff nD τ sig (Elt F) Λ₀ .tc) PUnit :=
  cc0__moe_kernel i arg1 harg1 arg2 harg2 arg3 harg3 arg4 harg4 arg5 harg5 hlM (Memref.isWhole_whole _) hbM (Memref.isWhole_whole _)
    arg8 harg8 arg9 harg9 accM (Memref.isWhole_whole _) wlM (Memref.isWhole_whole _) wbM (Memref.isWhole_whole _) cc0_scratch3

/-- The guard of the first point: the grid coordinate is 0. -/
abbrev cond1 (i : grid0.Coords) : Prop :=
  Scalar.cmpi .ne (Scalar.extui (Scalar.cmpi .eq (BitVec.ofNat 32 (i 0).val) 0#32) : BitVec 32) 0#32 = 1#1
/-- The guard of the first point holds at point 0 alone. -/
theorem cond1_iff : ∀ t : Fin cfg0.N, cond1 (grid0.coords t) ↔ t.val = 0 := by decide
/-- The guard of the last point: the grid coordinate is 7. -/
theorem cond2_iff : ∀ t : Fin cfg0.N, k0_cond2 (grid0.coords t) = 1#1 ↔ t.val = 7 := by decide

/-- The copy of the logits weights in flight: it will give back its cell, its destination filled and its source. -/
abbrev flightL (c : Dev nD) (hl : BufAt (F := F) c hlM) (fl : BufAt (F := F) c wlM) : sProp 𝕄 :=
  Transfers.Flight countersEmb (c : Thread nD τ) (SemLoc.dma 8) () 57600
    iprop((wlM.view.loc (c : Thread nD τ) ↦{fullShare} View.write (Elt F) wlM.view fl (ReadAs.same.apply (hlM.view.read (Elt F) hl)) Finset.univ)
      ∗ (hlM.view.loc (c : Thread nD τ) ↦[hlM.view.set]{fullShare} hl))
/-- The copy of the boxes weights in flight. -/
abbrev flightB (c : Dev nD) (hb : BufAt (F := F) c hbM) (fb : BufAt (F := F) c wbM) : sProp 𝕄 :=
  Transfers.Flight countersEmb (c : Thread nD τ) (SemLoc.dma 9) () 115200
    iprop((wbM.view.loc (c : Thread nD τ) ↦{fullShare} View.write (Elt F) wbM.view fb (ReadAs.same.apply (hbM.view.read (Elt F) hb)) Finset.univ)
      ∗ (hbM.view.loc (c : Thread nD τ) ↦[hbM.view.set]{fullShare} hb))
/-- What a copy does not lend of its source's buffer. -/
abbrev restL (c : Dev nD) (hl : BufAt (F := F) c hlM) : sProp 𝕄 :=
  hlM.view.loc (c : Thread nD τ) ↦[Finset.univ \ hlM.view.set]{fullShare} hl
abbrev restB (c : Dev nD) (hb : BufAt (F := F) c hbM) : sProp 𝕄 :=
  hbM.view.loc (c : Thread nD τ) ↦[Finset.univ \ hbM.view.set]{fullShare} hb

/-- Expert `k`'s part of each weight array, as the body loads it. -/
abbrev w1At0 (W1 : Vec F S3x3x768 .f32) : Vec F S1x3x768 .f32 := View.ld W1 (Rect.unit (s := S3x3x768) ![0, 0, 0] S1x3x768.size inb_S3x3x768_S1x3x768_0_0_0)
abbrev w1At1 (W1 : Vec F S3x3x768 .f32) : Vec F S1x3x768 .f32 := View.ld W1 (Rect.unit (s := S3x3x768) ![1, 0, 0] S1x3x768.size inb_S3x3x768_S1x3x768_1_0_0)
abbrev w1At2 (W1 : Vec F S3x3x768 .f32) : Vec F S1x3x768 .f32 := View.ld W1 (Rect.unit (s := S3x3x768) ![2, 0, 0] S1x3x768.size inb_S3x3x768_S1x3x768_2_0_0)
abbrev b1At0 (b1 : Vec F S3x768 .f32) : Vec F S1x768 .f32 := View.ld b1 (Rect.unit (s := S3x768) ![0, 0] S1x768.size inb_S3x768_S1x768_0_0)
abbrev b1At1 (b1 : Vec F S3x768 .f32) : Vec F S1x768 .f32 := View.ld b1 (Rect.unit (s := S3x768) ![1, 0] S1x768.size inb_S3x768_S1x768_1_0)
abbrev b1At2 (b1 : Vec F S3x768 .f32) : Vec F S1x768 .f32 := View.ld b1 (Rect.unit (s := S3x768) ![2, 0] S1x768.size inb_S3x768_S1x768_2_0)
abbrev wlAt0 (w : Vec F S3x200x768 .f32) : Vec F S1x200x768 .f32 := View.ld w (Rect.unit (s := S3x200x768) ![0, 0, 0] S1x200x768.size inb_S3x200x768_S1x200x768_0_0_0)
abbrev wlAt1 (w : Vec F S3x200x768 .f32) : Vec F S1x200x768 .f32 := View.ld w (Rect.unit (s := S3x200x768) ![1, 0, 0] S1x200x768.size inb_S3x200x768_S1x200x768_1_0_0)
abbrev wlAt2 (w : Vec F S3x200x768 .f32) : Vec F S1x200x768 .f32 := View.ld w (Rect.unit (s := S3x200x768) ![2, 0, 0] S1x200x768.size inb_S3x200x768_S1x200x768_2_0_0)
abbrev wbAt0 (w : Vec F S3x400x768 .f32) : Vec F S1x400x768 .f32 := View.ld w (Rect.unit (s := S3x400x768) ![0, 0, 0] S1x400x768.size inb_S3x400x768_S1x400x768_0_0_0)
abbrev wbAt1 (w : Vec F S3x400x768 .f32) : Vec F S1x400x768 .f32 := View.ld w (Rect.unit (s := S3x400x768) ![1, 0, 0] S1x400x768.size inb_S3x400x768_S1x400x768_1_0_0)
abbrev wbAt2 (w : Vec F S3x400x768 .f32) : Vec F S1x400x768 .f32 := View.ld w (Rect.unit (s := S3x400x768) ![2, 0, 0] S1x400x768.size inb_S3x400x768_S1x400x768_2_0_0)

/-- What the last point stores as logits, from the final accumulator and the weights. -/
def logitsOf (A : Vec F S16x3 .f32) (Wc : Vec F S3x3 .f32) (bc : Vec F S1x3 .f32) (W1 : Vec F S3x3x768 .f32) (b1 : Vec F S3x768 .f32)
    (wl : Vec F S3x200x768 .f32) : Vec F S16x200 .f32 :=
  k0_pay4 (k0_pay13 A Wc bc)
    (k0_pay19 (k0_pay6 A) (k0_pay11 A Wc bc) (k0_pay12 A Wc bc) k0_pay14 (k0_pay16 A (w1At0 W1) (b1At0 b1))
      (Scalar.ofBits .f32 0x00000000#32) (wlAt0 wl) (w1At1 W1) (b1At1 b1) (wlAt1 wl))
    (k0_pay21 (k0_pay6 A) (w1At2 W1)) (b1At2 b1) (wlAt2 wl)
/-- What the last point stores as boxes. -/
def boxesOf (A : Vec F S16x3 .f32) (Wc : Vec F S3x3 .f32) (bc : Vec F S1x3 .f32) (W1 : Vec F S3x3x768 .f32) (b1 : Vec F S3x768 .f32)
    (wb : Vec F S3x400x768 .f32) : Vec F S16x400 .f32 :=
  k0_pay5 (k0_pay13 A Wc bc)
    (k0_pay20 (k0_pay6 A) (k0_pay11 A Wc bc) (k0_pay12 A Wc bc) k0_pay15 (k0_pay16 A (w1At0 W1) (b1At0 b1))
      (Scalar.ofBits .f32 0x00000000#32) (wbAt0 wb) (w1At1 W1) (b1At1 b1) (wbAt1 wb))
    (k0_pay21 (k0_pay6 A) (w1At2 W1)) (b1At2 b1) (wbAt2 wb)

/-! ## The body at a point, in its three cases -/

/-- At a point that is neither the first nor the last, the body adds the block's sums to the accumulator. -/
theorem run_mid (c : Dev nD) (i : grid0.Coords) (h1 : ¬ cond1 i) (h2 : ¬ k0_cond2 i = 1#1)
    (arg1 : Memref sig .tc .vmem S16x3x64x512 .f32) (harg1 : arg1.IsWhole)
    (arg2 : Memref sig .tc .vmem S3x3 .f32) (harg2 : arg2.IsWhole) (arg3 : Memref sig .tc .vmem S1x3 .f32) (harg3 : arg3.IsWhole)
    (arg4 : Memref sig .tc .vmem S3x3x768 .f32) (harg4 : arg4.IsWhole) (arg5 : Memref sig .tc .vmem S3x768 .f32) (harg5 : arg5.IsWhole)
    (arg8 : Memref sig .tc .vmem S16x200 .f32) (harg8 : arg8.IsWhole) (arg9 : Memref sig .tc .vmem S16x400 .f32) (harg9 : arg9.IsWhole)
    (X : Vec F S16x3x64x512 .f32) (acc : Vec F S16x3 .f32) (K : PUnit → sProp 𝕄) :
    iprop(owns (c : Thread nD τ) arg1 fullShare X ∗ owns (c : Thread nD τ) accM fullShare acc
        ∗ (iprop(owns (c : Thread nD τ) arg1 fullShare X ∗ owns (c : Thread nD τ) accM fullShare (k0_pay2 acc X)) -∗ K ⟨⟩))
      ⊢ wp frame (wpE (defs₀ (F := F)) Variants.none c none) Set.univ
          (body i arg1 harg1 arg2 harg2 arg3 harg3 arg4 harg4 arg5 harg5 arg8 harg8 arg9 harg9) K := by
  unfold body
  simp only [cc0__moe_kernel_eq_skeleton]; unfold cc0__moe_kernel_skel
  unfold owns
  iintro ⟨⟨%f1, %hf1, H1⟩, ⟨%fa, %hfa, HA⟩, Hk⟩
  sl_exec
  sl_step
  iapply Hk
  isplitl [H1]
  · iexists f1; isplitr; · ipureintro; exact hf1
    iexact H1
  iexists _; isplitr
  swap; · iexact HA
  ipureintro
  exact (View.read_writes_full _ _ _ _ _).trans
    (congrArg₂ k0_pay2 ((View.readAt_full _ _ _).trans hfa) ((View.readAt_full _ _ _).trans hf1))

/-- At the first point the body also clears the accumulator and starts the two copies. -/
theorem run_first (c : Dev nD) (i : grid0.Coords) (h1 : cond1 i) (h2 : ¬ k0_cond2 i = 1#1)
    (arg1 : Memref sig .tc .vmem S16x3x64x512 .f32) (harg1 : arg1.IsWhole)
    (arg2 : Memref sig .tc .vmem S3x3 .f32) (harg2 : arg2.IsWhole) (arg3 : Memref sig .tc .vmem S1x3 .f32) (harg3 : arg3.IsWhole)
    (arg4 : Memref sig .tc .vmem S3x3x768 .f32) (harg4 : arg4.IsWhole) (arg5 : Memref sig .tc .vmem S3x768 .f32) (harg5 : arg5.IsWhole)
    (arg8 : Memref sig .tc .vmem S16x200 .f32) (harg8 : arg8.IsWhole) (arg9 : Memref sig .tc .vmem S16x400 .f32) (harg9 : arg9.IsWhole)
    (X : Vec F S16x3x64x512 .f32) (hl : BufAt (F := F) c hlM) (hb : BufAt (F := F) c hbM) (W : Waits sig Unit) (K : PUnit → sProp 𝕄) :
    iprop(owns (c : Thread nD τ) arg1 fullShare X ∗ (∃ f, ptAt c accM f) ∗ (∃ f, ptAt c wlM f) ∗ (∃ f, ptAt c wbM f)
        ∗ semVal ((c : Thread nD τ), SemLoc.dma 8) 0 ∗ semVal ((c : Thread nD τ), SemLoc.dma 9) 0
        ∗ ptAt c hlM hl ∗ ptAt c hbM hb ∗ owes (c : Thread nD τ) 0 W
        ∗ (iprop(owns (c : Thread nD τ) arg1 fullShare X ∗ owns (c : Thread nD τ) accM fullShare (k0_pay2 k0_pay1 X)
            ∗ (∃ fl, flightL c hl fl) ∗ (∃ fb, flightB c hb fb) ∗ restL c hl ∗ restB c hb ∗ (∃ W', owes (c : Thread nD τ) 0 W')) -∗ K ⟨⟩))
      ⊢ wp frame (wpE (defs₀ (F := F)) Variants.none c none) Set.univ
          (body i arg1 harg1 arg2 harg2 arg3 harg3 arg4 harg4 arg5 harg5 arg8 harg8 arg9 harg9) K := by
  unfold body
  simp only [cc0__moe_kernel_eq_skeleton]; unfold cc0__moe_kernel_skel
  unfold owns
  iintro ⟨⟨%f1, %hf1, H1⟩, ⟨%fa, HA⟩, ⟨%fl, HL⟩, ⟨%fb, HB⟩, Hq0, Hq1, Hhl, Hhb, HW, Hk⟩
  sl_exec
  sl_step
  iapply Hk
  isplitl [H1]
  · iexists f1; isplitr; · ipureintro; exact hf1
    iexact H1
  isplitl [HA]
  · iexists _; isplitr
    swap; · iexact HA
    ipureintro
    exact (View.read_writes_full _ _ _ _ _).trans
      (congrArg₂ k0_pay2 (by unfold run_first.sl.v3; exact View.readCov_full _ _ _ _ _) ((View.readAt_full _ _ _).trans hf1))
  isplitl [Hq0]; · iexists fl; iexact Hq0
  isplitl [Hq1]; · iexists fb; iexact Hq1
  isplitl [Hhl]; · iexact Hhl
  isplitl [Hhb]; · iexact Hhb
  iexists W; iexact HW

/-- A load from a weight buffer its copy has filled reads the copy's source. -/
theorem readAt_landedL (c : Dev nD) (hl : BufAt (F := F) c hlM) (fl : BufAt (F := F) c wlM) (r : Rect S3x200x768) :
    View.readAt (Elt F) wlM.view r.toLoadRect (View.write (Elt F) wlM.view fl (ReadAs.same.apply (hlM.view.read (Elt F) hl)) Finset.univ)
      = View.ld (hlM.view.read (Elt F) hl) r :=
  funext fun x => congrFun (View.read_write_univ (v := wlM.view) fl (ReadAs.same.apply (hlM.view.read (Elt F) hl))) (r.idx x)
/-- A slice read out of the landed boxes weights is that slice of the source. -/
theorem readAt_landedB (c : Dev nD) (hb : BufAt (F := F) c hbM) (fb : BufAt (F := F) c wbM) (r : Rect S3x400x768) :
    View.readAt (Elt F) wbM.view r.toLoadRect (View.write (Elt F) wbM.view fb (ReadAs.same.apply (hbM.view.read (Elt F) hb)) Finset.univ)
      = View.ld (hbM.view.read (Elt F) hb) r :=
  funext fun x => congrFun (View.read_write_univ (v := wbM.view) fb (ReadAs.same.apply (hbM.view.read (Elt F) hb))) (r.idx x)

/-- At the last point the body waits for the two copies, finishes the accumulator and stores the two results. -/
theorem run_last (c : Dev nD) (i : grid0.Coords) (h1 : ¬ cond1 i) (h2 : k0_cond2 i = 1#1)
    (arg1 : Memref sig .tc .vmem S16x3x64x512 .f32) (harg1 : arg1.IsWhole)
    (arg2 : Memref sig .tc .vmem S3x3 .f32) (harg2 : arg2.IsWhole) (arg3 : Memref sig .tc .vmem S1x3 .f32) (harg3 : arg3.IsWhole)
    (arg4 : Memref sig .tc .vmem S3x3x768 .f32) (harg4 : arg4.IsWhole) (arg5 : Memref sig .tc .vmem S3x768 .f32) (harg5 : arg5.IsWhole)
    (arg8 : Memref sig .tc .vmem S16x200 .f32) (harg8 : arg8.IsWhole) (arg9 : Memref sig .tc .vmem S16x400 .f32) (harg9 : arg9.IsWhole)
    (X : Vec F S16x3x64x512 .f32) (Wc : Vec F S3x3 .f32) (bc : Vec F S1x3 .f32) (W1 : Vec F S3x3x768 .f32) (b1 : Vec F S3x768 .f32)
    (acc : Vec F S16x3 .f32)
    (hl : BufAt (F := F) c hlM) (hb : BufAt (F := F) c hbM) (W : Waits sig Unit) (K : PUnit → sProp 𝕄) :
    iprop(owns (c : Thread nD τ) arg1 fullShare X ∗ owns (c : Thread nD τ) arg2 fullShare Wc ∗ owns (c : Thread nD τ) arg3 fullShare bc
        ∗ owns (c : Thread nD τ) arg4 fullShare W1 ∗ owns (c : Thread nD τ) arg5 fullShare b1
        ∗ (∃ d, owns (c : Thread nD τ) arg8 fullShare d) ∗ (∃ d, owns (c : Thread nD τ) arg9 fullShare d)
        ∗ owns (c : Thread nD τ) accM fullShare acc
        ∗ (∃ fl, flightL c hl fl) ∗ (∃ fb, flightB c hb fb) ∗ restL c hl ∗ restB c hb ∗ owes (c : Thread nD τ) 0 W
        ∗ (iprop(owns (c : Thread nD τ) arg1 fullShare X ∗ owns (c : Thread nD τ) arg2 fullShare Wc ∗ owns (c : Thread nD τ) arg3 fullShare bc
            ∗ owns (c : Thread nD τ) arg4 fullShare W1 ∗ owns (c : Thread nD τ) arg5 fullShare b1
            ∗ owns (c : Thread nD τ) arg8 fullShare (logitsOf (k0_pay2 acc X) Wc bc W1 b1 (hlM.view.read (Elt F) hl))
            ∗ owns (c : Thread nD τ) arg9 fullShare (boxesOf (k0_pay2 acc X) Wc bc W1 b1 (hbM.view.read (Elt F) hb))
            ∗ (∃ f, ptAt c accM f) ∗ (∃ f, ptAt c wlM f) ∗ (∃ f, ptAt c wbM f)
            ∗ semVal ((c : Thread nD τ), SemLoc.dma 8) 0 ∗ semVal ((c : Thread nD τ), SemLoc.dma 9) 0
            ∗ ptAt c hlM hl ∗ ptAt c hbM hb ∗ (∃ W', owes (c : Thread nD τ) 0 W')) -∗ K ⟨⟩))
      ⊢ wp frame (wpE (defs₀ (F := F)) Variants.none c none) Set.univ
          (body i arg1 harg1 arg2 harg2 arg3 harg3 arg4 harg4 arg5 harg5 arg8 harg8 arg9 harg9) K := by
  unfold body
  simp only [cc0__moe_kernel_eq_skeleton, k0_part1_eq_skeleton, k0_part2_eq_skeleton]; unfold cc0__moe_kernel_skel
  unfold owns
  iintro ⟨⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩,
    ⟨%fa, %hfa, HA⟩, ⟨%fl, Hq0⟩, ⟨%fb, Hq1⟩, Hhl, Hhb, HW, Hk⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  have hv : run_last.sl.v17 c arg1 f1 fa = k0_pay2 acc X := by
    unfold run_last.sl.v17
    exact (View.readCov_full _ _ _ _ _).trans
      (congrArg₂ k0_pay2 ((View.readAt_full _ _ _).trans hfa) ((View.readAt_full _ _ _).trans hf1))
  isplitl [H8]
  · iexists _; isplitr
    swap; · iexact H8
    ipureintro
    refine (View.read_writes_full _ _ _ _ _).trans ?_
    unfold logitsOf run_last.sl.r_3 run_last.sl.r_5 run_last.sl.r_7 run_last.sl.r run_last.sl.r_1 run_last.sl.r_2 run_last.sl.r_4 run_last.sl.cst_26
    rw [hv, readAt_landedL, readAt_landedL, readAt_landedL, View.readAt_full _ f2, View.readAt_full _ f3, hf2, hf3, ← hf4, ← hf5]
    rfl
  isplitl [H9]
  · iexists _; isplitr
    swap; · iexact H9
    ipureintro
    refine (View.read_writes_full _ _ _ _ _).trans ?_
    unfold boxesOf run_last.sl.r_3 run_last.sl.r_6 run_last.sl.r_7 run_last.sl.r run_last.sl.r_1 run_last.sl.r_2 run_last.sl.r_4 run_last.sl.cst_26
    rw [hv, readAt_landedB, readAt_landedB, readAt_landedB, View.readAt_full _ f2, View.readAt_full _ f3, hf2, hf3, ← hf4, ← hf5]
    rfl
  isplitl [HA]; · iexists _; iexact HA
  isplitl [Hq0_dst]; · iexists _; iexact Hq0_dst
  isplitl [Hq1_dst]; · iexists _; iexact Hq1_dst
  isplitl [Hq0]; · iexact Hq0
  isplitl [Hq1]; · iexact Hq1
  isplitl [Hhl]; · iexact Hhl
  isplitl [Hhb]; · iexact Hhb
  iexists _; iexact HW

/-! ## The region's surroundings, at the proof's algebra -/

variable (m : (ℓ : Loc nD τ sig) → Buf (Elt F) ℓ) (ρ : Dev nD → PrngReg)

set_option maxHeartbeats 800000 in
/-- The program is the host lines before the region, the region, and the host lines after it. -/
theorem hmainK (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The body's two cells. -/
abbrev osem0 : Fin 2 → SemLoc sig := fun j => (![SemLoc.dma 8, SemLoc.dma 9] : Fin 2 → SemLoc sig) j
/-- The two copies' counters are apart from the windows' own. -/
theorem ownSemFacts0 : Pipeline.OwnSemFacts spec0 osem0 := by decide
/-- Holding the body's own counters is holding the two copies' counters. -/
theorem ownSems0_two (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0) := by
  rw [Pipeline.ownSems0_eq_of_list c osem0 [0, 1] (by decide) (by decide)]; rfl
/-- The two arrays in HBM the body's copies read. -/
def H0 : Finset (Ref sig .tc) := {main_call0_v1, main_call0_v2}
/-- The two arrays left in HBM are no window's array. -/
theorem H0_sub : H0 ⊆ Pipeline.restRefs sig spec0 := by decide
/-- Holding the arrays left in HBM is holding the two weight arrays. -/
theorem bigSep_H0 (c : Dev nD) :
    (bigSep H0 (fun b => ((c : Thread nD τ).loc b) ↦{fullShare} V m c b) : sProp 𝕄)
      = iprop(ptAt c hlM (V m c main_call0_v1) ∗ ptAt c hbM (V m c main_call0_v2)) := by
  rw [BI.bigSep_eq_bigSepL_of_eq [main_call0_v1, main_call0_v2] (by decide) (by decide)]; rfl
/-- Everything at home: the three scratch buffers at some contents, the two counters at zero, the two HBM arrays. -/
theorem atHome_eq (c : Dev nD) :
    (Pipeline.ΦD osem0 spec0 H0 (V m) c : sProp 𝕄)
      = iprop(iprop((∃ f, ptAt c accM f) ∗ (∃ f, ptAt c wlM f) ∗ (∃ f, ptAt c wbM f))
          ∗ (∃ r, prngReg c r)
          ∗ iprop(semVal ((c : Thread nD τ), SemLoc.dma 8) 0 ∗ semVal ((c : Thread nD τ), SemLoc.dma 9) 0)
          ∗ iprop(ptAt c hlM (V m c main_call0_v1) ∗ ptAt c hbM (V m c main_call0_v2))) := by
  rw [Pipeline.ΦD_eq, scopedRest0_eq, ownSems0_two, bigSep_H0]

/-- The host lines after the region touch neither of the two HBM arrays. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  intro b hb
  simp only [H0, Finset.mem_insert, Finset.mem_singleton] at hb
  rcases hop with rfl | rfl <;> rcases hb with rfl | rfl <;>
    simp only [StableHlo.TRef.reshape, StableHlo.reshape_bufs, Finset.mem_insert, Finset.mem_singleton, not_or] <;>
    exact ⟨StableHlo.devRef_ne_of_ne (by decide), StableHlo.devRef_ne_of_ne (by decide)⟩

/-! ## The proof data -/

/-- The accumulator after the first `n` row blocks. -/
def accAt (c : Dev nD) : ℕ → Vec F S16x3 .f32
  | 0 => k0_pay1
  | n + 1 => k0_pay2 (accAt c n) (iblk m c 0 ⟨n % 8, Nat.lt_of_lt_of_eq (Nat.mod_lt n (by decide)) N_0.symm⟩)

/-- One more point adds its block to the running sum. -/
theorem accAt_succ (c : Dev nD) (t : Fin cfg0.N) : k0_pay2 (accAt m c t.val) (iblk m c 0 t) = accAt m c (t.val + 1) := by
  have h : t.val < 8 := Nat.lt_of_lt_of_eq t.isLt N_0
  show _ = k0_pay2 (accAt m c t.val) (iblk m c 0 ⟨t.val % 8, _⟩)
  congr 2
  exact Fin.ext (Nat.mod_eq_of_lt h).symm

/-- The logits and the boxes, from the weights' blocks at a point and the accumulator at the end. -/
def logitsAt (c : Dev nD) (t : Fin cfg0.N) : Vec F S16x200 .f32 :=
  logitsOf (accAt m c 8) (iblk m c 1 t) (iblk m c 2 t) (iblk m c 3 t) (iblk m c 4 t) (hlM.view.read (Elt F) (V m c main_call0_v1))
def boxesAt (c : Dev nD) (t : Fin cfg0.N) : Vec F S16x400 .f32 :=
  boxesOf (accAt m c 8) (iblk m c 1 t) (iblk m c 2 t) (iblk m c 3 t) (iblk m c 4 t) (hbM.view.read (Elt F) (V m c main_call0_v2))

/-- Between two points: the running sum, and the two copies in flight. -/
def midway (c : Dev nD) (n : ℕ) : sProp 𝕄 :=
  iprop(owns (c : Thread nD τ) accM fullShare (accAt m c n)
    ∗ (∃ fl, flightL c (V m c main_call0_v1) fl) ∗ (∃ fb, flightB c (V m c main_call0_v2) fb)
    ∗ restL c (V m c main_call0_v1) ∗ restB c (V m c main_call0_v2) ∗ (∃ r, prngReg c r))

/-- The invariant after `n` points. -/
def inv (c : Dev nD) (n : ℕ) : sProp 𝕄 :=
  if n = 0 ∨ n = 8 then Pipeline.ΦD osem0 spec0 H0 (V m) c else midway m c n

/-- Before the first point and after the last, everything is at home. -/
theorem inv_ends (c : Dev nD) {n : ℕ} (h : n = 0 ∨ n = 8) : inv m c n = Pipeline.ΦD osem0 spec0 H0 (V m) c := if_pos h
/-- Between two points, the copies are in flight. -/
theorem inv_mid (c : Dev nD) {n : ℕ} (h : ¬ (n = 0 ∨ n = 8)) : inv m c n = midway m c n := if_neg h

/-- The proof data: the arrays as the region finds them, each input's block left in place, the results at the last
    point's values, the invariant above, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => logitsAt m c t
    | ⟨6, _⟩ => boxesAt m c t
  Φ t := inv m c t.val
  q _ := fullShare
  owed _ := 0

/-- A window's array at the region's entry. -/
theorem A_eq (c : Dev nD) (w : Fin cfg0.W) : (dats m 0 c).A w = V m c (Pipeline.arrRef spec0 w) := by dsimp only [dats]
/-- The staging buffer of the pixels after a point: its block still. -/
theorem after_0 (c : Dev nD) (t : Fin cfg0.N) : (dats m 0 c).after 0 t = iblk m c 0 t := by dsimp only [dats]
/-- The staging buffer of the classifier's weights after a point: its block still. -/
theorem after_1 (c : Dev nD) (t : Fin cfg0.N) : (dats m 0 c).after 1 t = iblk m c 1 t := by dsimp only [dats]
/-- The staging buffer of the classifier's bias after a point: its block still. -/
theorem after_2 (c : Dev nD) (t : Fin cfg0.N) : (dats m 0 c).after 2 t = iblk m c 2 t := by dsimp only [dats]
/-- The staging buffer of the first weights after a point: its block still. -/
theorem after_3 (c : Dev nD) (t : Fin cfg0.N) : (dats m 0 c).after 3 t = iblk m c 3 t := by dsimp only [dats]
/-- The staging buffer of the first bias after a point: its block still. -/
theorem after_4 (c : Dev nD) (t : Fin cfg0.N) : (dats m 0 c).after 4 t = iblk m c 4 t := by dsimp only [dats]
/-- The logits' staging buffer after a point. -/
theorem after_5 (c : Dev nD) (t : Fin cfg0.N) : (dats m 0 c).after 5 t = logitsAt m c t := by dsimp only [dats]
/-- The boxes' staging buffer after a point. -/
theorem after_6 (c : Dev nD) (t : Fin cfg0.N) : (dats m 0 c).after 6 t = boxesAt m c t := by dsimp only [dats]

/-- An input's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The staging buffer of the classifier's weights holds its block at every point. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The staging buffer of the classifier's bias holds its block at every point. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The staging buffer of the first weights holds its block at every point. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- The staging buffer of the first bias holds its block at every point. -/
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

/-- A window's staging buffer before the body at a point, and after it. -/
def winPre (c : Dev nD) (t : Fin cfg0.N) (w : Fin cfg0.W) : sProp 𝕄 :=
  iprop(∃ d, owns (c : Thread nD τ) ((cfg0.win w).stage (cfg0.slots t w)) fullShare ((dats m 0 c).before w t d))
def winPost (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- No input window is idle at any point. -/
theorem idle_in : ∀ (t : Fin cfg0.N), cfg0.idle 0 (cfg0.grid.coords t) = false ∧ cfg0.idle 1 (cfg0.grid.coords t) = false
    ∧ cfg0.idle 2 (cfg0.grid.coords t) = false ∧ cfg0.idle 3 (cfg0.grid.coords t) = false ∧ cfg0.idle 4 (cfg0.grid.coords t) = false := by decide
/-- The output windows are idle at every point but the last. -/
theorem idle_out : ∀ (t : Fin cfg0.N), cfg0.idle 5 (cfg0.grid.coords t) = !decide (t.val = 7)
    ∧ cfg0.idle 6 (cfg0.grid.coords t) = !decide (t.val = 7) := by decide

/-- A window the body does not leave alone ends at its stated contents. -/
theorem winPost_busy (c : Dev nD) (t : Fin cfg0.N) (w : Fin cfg0.W) (h : cfg0.idle w (cfg0.grid.coords t) = false) :
    winPost m c t w = owns (c : Thread nD τ) ((cfg0.win w).stage (cfg0.slots t w)) fullShare ((dats m 0 c).after w t) := by
  unfold winPost; rw [h]
/-- A window left alone at a point that does not write it back ends as it was. -/
theorem winPost_idle (c : Dev nD) (t : Fin cfg0.N) (w : Fin cfg0.W) (h : cfg0.idle w (cfg0.grid.coords t) = true)
    (hf : (cfg0.win w).flush t = false) : winPost m c t w = winPre m c t w := by
  unfold winPost; rw [h, hf]; rfl

def bodyPre (c : Dev nD) (t : Fin cfg0.N) : sProp 𝕄 :=
  iprop((dats m 0 c).Φ t.castSucc ∗ (dats m 0 c).owesAt () t.castSucc
    ∗ winPre m c t 0 ∗ winPre m c t 1 ∗ winPre m c t 2 ∗ winPre m c t 3 ∗ winPre m c t 4 ∗ winPre m c t 5 ∗ winPre m c t 6)
def bodyPost (c : Dev nD) (t : Fin cfg0.N) : sProp 𝕄 :=
  iprop((dats m 0 c).Φ t.succ ∗ (dats m 0 c).owesAt () t.succ
    ∗ winPost m c t 0 ∗ winPost m c t 1 ∗ winPost m c t 2 ∗ winPost m c t 3 ∗ winPost m c t 4 ∗ winPost m c t 5 ∗ winPost m c t 6)

/-- A point's number is below eight. -/
theorem lt8 (t : Fin cfg0.N) : t.val < 8 := Nat.lt_of_lt_of_eq t.isLt N_0

/-- The results' windows are not written back before the last point. -/
theorem noflush5 (t : Fin cfg0.N) (h : t.val ≠ 7) : (cfg0.win 5).flush t = false := by
  have := flush0_5 t; have := lt8 t
  cases hf : (cfg0.win 5).flush t with
  | false => rfl
  | true => exact absurd ((flush0_5 t).mp hf) (by omega)
/-- The boxes are not written back before the last point. -/
theorem noflush6 (t : Fin cfg0.N) (h : t.val ≠ 7) : (cfg0.win 6).flush t = false := by
  have := flush0_6 t; have := lt8 t
  cases hf : (cfg0.win 6).flush t with
  | false => rfl
  | true => exact absurd ((flush0_6 t).mp hf) (by omega)

/-- The obligation at the first point. -/
theorem sound_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost
  rw [winPost_busy m c t 0 (idle_in t).1, winPost_busy m c t 1 (idle_in t).2.1, winPost_busy m c t 2 (idle_in t).2.2.1,
    winPost_busy m c t 3 (idle_in t).2.2.2.1, winPost_busy m c t 4 (idle_in t).2.2.2.2,
    winPost_idle m c t 5 (by rw [(idle_out t).1, ht]; rfl) (noflush5 t (by omega)),
    winPost_idle m c t 6 (by rw [(idle_out t).2, ht]; rfl) (noflush6 t (by omega))]
  rw [show (dats m 0 c).Φ t.castSucc = inv m c t.val from rfl, show (dats m 0 c).Φ t.succ = inv m c (t.val + 1) from rfl,
    inv_ends m c (Or.inl ht), inv_mid m c (n := t.val + 1) (by omega), atHome_eq]
  unfold midway
  unfold Dat.owesAt Pipeline.owesWithin winPre
  rw [show (dats m 0 c).owed t.castSucc = 0 from rfl, show (dats m 0 c).owed t.succ = 0 from rfl]
  simp only [before_0, before_1, before_2, before_3, before_4, after_0, after_1, after_2, after_3, after_4]
  iintro ⟨⟨⟨HA, HL, HB⟩, Hg, ⟨Hq0, Hq1⟩, ⟨Hhl, Hhb⟩⟩, ⟨%W, -, HW⟩, ⟨%d0, H0⟩, ⟨%d1, H1⟩, ⟨%d2, H2⟩, ⟨%d3, H3⟩, ⟨%d4, H4⟩, H5, H6⟩
  iapply (run_first c (grid0.coords t) ((cond1_iff t).mpr ht) (fun h => absurd ((cond2_iff t).mp h) (by omega)) _ _ _ _ _ _ _ _ _ _ _ _ _ _
    (iblk m c 0 t) (V m c main_call0_v1) (V m c main_call0_v2) W _)
  isplitl [H0]; · iexact H0
  isplitl [HA]; · iexact HA
  isplitl [HL]; · iexact HL
  isplitl [HB]; · iexact HB
  isplitl [Hq0]; · iexact Hq0
  isplitl [Hq1]; · iexact Hq1
  isplitl [Hhl]; · iexact Hhl
  isplitl [Hhb]; · iexact Hhb
  isplitl [HW]; · iexact HW
  iintro ⟨H0, HA, HfL, HfB, HrL, HrB, ⟨%W', HW'⟩⟩
  have hacc : k0_pay2 k0_pay1 (iblk m c 0 t) = accAt m c (t.val + 1) := by rw [← accAt_succ, ht]; rfl
  rw [hacc]
  isplitl [HA HfL HfB HrL HrB Hg]
  · isplitl [HA]; · iexact HA
    isplitl [HfL]; · iexact HfL
    isplitl [HfB]; · iexact HfB
    isplitl [HrL]; · iexact HrL
    isplitl [HrB]; · iexact HrB
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The obligation at a point that is neither the first nor the last. -/
theorem sound_mid (c : Dev nD) (t : Fin cfg0.N) (ht : t.val ≠ 0) (ht7 : t.val ≠ 7) :
    bodyPre m c t ⊢ wp frame (wpE (defs₀ (F := F)) Variants.none c none) Set.univ (bodyAt0 t) (fun _ => bodyPost m c t) := by
  have h8 := lt8 t
  unfold bodyPre bodyPost
  rw [winPost_busy m c t 0 (idle_in t).1, winPost_busy m c t 1 (idle_in t).2.1, winPost_busy m c t 2 (idle_in t).2.2.1,
    winPost_busy m c t 3 (idle_in t).2.2.2.1, winPost_busy m c t 4 (idle_in t).2.2.2.2,
    winPost_idle m c t 5 (by rw [(idle_out t).1, decide_eq_false ht7]; rfl) (noflush5 t ht7),
    winPost_idle m c t 6 (by rw [(idle_out t).2, decide_eq_false ht7]; rfl) (noflush6 t ht7)]
  rw [show (dats m 0 c).Φ t.castSucc = inv m c t.val from rfl, show (dats m 0 c).Φ t.succ = inv m c (t.val + 1) from rfl,
    inv_mid m c (n := t.val) (by omega), inv_mid m c (n := t.val + 1) (by omega)]
  unfold midway
  unfold Dat.owesAt Pipeline.owesWithin winPre
  rw [show (dats m 0 c).owed t.castSucc = 0 from rfl, show (dats m 0 c).owed t.succ = 0 from rfl]
  simp only [before_0, before_1, before_2, before_3, before_4, after_0, after_1, after_2, after_3, after_4]
  iintro ⟨⟨HA, HfL, HfB, HrL, HrB, Hg⟩, ⟨%W, -, HW⟩, ⟨%d0, H0⟩, ⟨%d1, H1⟩, ⟨%d2, H2⟩, ⟨%d3, H3⟩, ⟨%d4, H4⟩, H5, H6⟩
  iapply (run_mid c (grid0.coords t) (fun h => ht ((cond1_iff t).mp h)) (fun h => ht7 ((cond2_iff t).mp h)) _ _ _ _ _ _ _ _ _ _ _ _ _ _
    (iblk m c 0 t) (accAt m c t.val) _)
  isplitl [H0]; · iexact H0
  isplitl [HA]; · iexact HA
  iintro ⟨H0, HA⟩
  rw [accAt_succ]
  isplitl [HA HfL HfB HrL HrB Hg]
  · isplitl [HA]; · iexact HA
    isplitl [HfL]; · iexact HfL
    isplitl [HfB]; · iexact HfB
    isplitl [HrL]; · iexact HrL
    isplitl [HrB]; · iexact HrB
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

/-- The obligation at the last point. -/
theorem sound_last (c : Dev nD) (t : Fin cfg0.N) (ht : t.val = 7) :
    bodyPre m c t ⊢ wp frame (wpE (defs₀ (F := F)) Variants.none c none) Set.univ (bodyAt0 t) (fun _ => bodyPost m c t) := by
  unfold bodyPre bodyPost
  rw [winPost_busy m c t 0 (idle_in t).1, winPost_busy m c t 1 (idle_in t).2.1, winPost_busy m c t 2 (idle_in t).2.2.1,
    winPost_busy m c t 3 (idle_in t).2.2.2.1, winPost_busy m c t 4 (idle_in t).2.2.2.2,
    winPost_busy m c t 5 (by rw [(idle_out t).1, ht]; rfl), winPost_busy m c t 6 (by rw [(idle_out t).2, ht]; rfl)]
  rw [show (dats m 0 c).Φ t.castSucc = inv m c t.val from rfl, show (dats m 0 c).Φ t.succ = inv m c (t.val + 1) from rfl,
    inv_mid m c (n := t.val) (by omega), inv_ends m c (n := t.val + 1) (Or.inr (by omega)), atHome_eq]
  unfold midway
  unfold Dat.owesAt Pipeline.owesWithin winPre
  rw [show (dats m 0 c).owed t.castSucc = 0 from rfl, show (dats m 0 c).owed t.succ = 0 from rfl]
  simp only [before_0, before_1, before_2, before_3, before_4, after_0, after_1, after_2, after_3, after_4, after_5, after_6]
  iintro ⟨⟨HA, HfL, HfB, HrL, HrB, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  have hacc : k0_pay2 (accAt m c t.val) (iblk m c 0 t) = accAt m c 8 := by rw [accAt_succ, ht]
  iapply (run_last c (grid0.coords t) (fun h => absurd ((cond1_iff t).mp h) (by omega)) ((cond2_iff t).mpr ht) _ _ _ _ _ _ _ _ _ _ _ _ _ _
    (iblk m c 0 t) (iblk m c 1 t) (iblk m c 2 t) (iblk m c 3 t) (iblk m c 4 t) (accAt m c t.val) (V m c main_call0_v1) (V m c main_call0_v2) W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HA]; · iexact HA
  isplitl [HfL]; · iexact HfL
  isplitl [HfB]; · iexact HfB
  isplitl [HrL]; · iexact HrL
  isplitl [HrB]; · iexact HrB
  isplitl [HW]; · iexact HW
  rw [hacc]
  iintro ⟨H0, H1, H2, H3, H4, H5, H6, HA, HL, HB, Hq0, Hq1, Hhl, Hhb, ⟨%W', HW'⟩⟩
  isplitl [HA HL HB Hg Hq0 Hq1 Hhl Hhb]
  · isplitl [HA HL HB]
    · isplitl [HA]; · iexact HA
      isplitl [HL]; · iexact HL
      iexact HB
    isplitl [Hg]; · iexact Hg
    isplitl [Hq0 Hq1]
    · isplitl [Hq0]; · iexact Hq0
      iexact Hq1
    isplitl [Hhl]; · iexact Hhl
    iexact Hhb
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body meets its specification at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  by_cases h7 : t.val = 7
  · exact sound_last m c t h7
  exact sound_mid m c t h0 h7

/-- The body called at a point is the body at that point. -/
theorem defs₀_row (t : Fin cfg0.N) :
    defs₀ (F := F) .tc cfg0.body (cfg0.bodyArgs t (cfg0.slots t)) = bodyAt0 t := by
  unfold defs₀; rw [Defs.onTc_tc]

/-- The body's obligation, from its specification at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the buffers hold when the program ends. -/
abbrev finalV (c : Dev nD) := Pipeline.afterTail₀ cfgs (dats m) 0 (V0 m) [hostOps1] c

set_option backward.isDefEq.respectTransparency.types false in
/-- Every run ends: the windows' arrays at the proof data's contents, every other unscoped buffer at `finalV`, every
    counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainK m Variants.none) (hA := A_eq m)
    (hin := fun c => by rw [show (dats m 0 c).Φ 0 = inv m c 0 from rfl, inv_ends m c (Or.inl rfl)])
    (hout := fun c => by
      rw [show (dats m 0 c).Φ (Fin.last cfg0.N) = inv m c cfg0.N from rfl, inv_ends m c (n := cfg0.N) (Or.inr N_0)])
    (hQ' := fun _ h => h)

/-- No host line after the region writes an argument that no window stages. -/
theorem final_main_arg2 (c : Dev nD) : finalV m c main_arg2 = m ((c : Thread nD τ).loc main_arg2) := by
  unfold finalV Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The logits weights end as launched. -/
theorem final_main_arg5 (c : Dev nD) : finalV m c main_arg5 = m ((c : Thread nD τ).loc main_arg5) := by
  unfold finalV Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- The boxes weights end as launched. -/
theorem final_main_arg6 (c : Dev nD) : finalV m c main_arg6 = m ((c : Thread nD τ).loc main_arg6) := by
  unfold finalV Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- The run with the arguments read back: they end as launched, and what is not a window's array ends at `finalV`. -/
theorem run_args : θ_run defs (onTc (τ := τ) (main (F := F))) ⟨m, fun _ => 0, ρ⟩ (fun r => (∀ c : Dev nD,
      (r.2.mem ((c.tc : Thread nD τ).loc main_v0_0) = finalV m c main_v0_0 ∧ r.2.mem ((c.tc : Thread nD τ).loc main_v0_1) = finalV m c main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c =>
    ⟨⟨(h.1 c).2 main_v0_0 (Pipeline.mem_restRefs_of main_v0_0 (by decide) (by decide)),
      (h.1 c).2 main_v0_1 (Pipeline.mem_restRefs_of main_v0_1 (by decide) (by decide))⟩,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (final_main_arg2 m c),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).2 main_arg5 (Pipeline.mem_restRefs_of main_arg5 (by decide) (by decide))).trans (final_main_arg5 m c),
      ((h.1 c).2 main_arg6 (Pipeline.mem_restRefs_of main_arg6 (by decide) (by decide))).trans (final_main_arg6 m c)⟩, h.2⟩) (run_main m ρ)

end Cert.KernelIdeal.Run
-- ==== Proof.ReferenceRun.lean ====
/-
  The run of the reference program: its operations in eight stretches, what each stretch leaves, and the two results as
  one composed term of the arguments.
-/
module

public import proofs.«01_k».proof.Proof.Gen.ReferenceIdeal
public import Idealize.ShloMosaic.Lib.StableHlo.Run
public import Idealize.ShloMosaic.Lib.StableHlo.RunRead
public import Idealize.ShloMosaic.Lib.Quiescent

@[expose] public section

set_option maxRecDepth 8192

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The pooled mean and the scores: 9 operations. -/
abbrev opsPool : List (HloOp τ sig (Elt F)) :=
  [ nullary main_cst (constant S_ .f32 0x00000000#32),
    binary main_arg0 main_cst main_v0 ((fun x v => Host.reduceAdd x v reducesTo_S16x3x512x512_S16x3_d2_3 h_S_) : (⟨S16x3x512x512, .f32⟩ : BufTy).Contents (Elt F) → (⟨S_, .f32⟩ : BufTy).Contents (Elt F) → (⟨S16x3, .f32⟩ : BufTy).Contents (Elt F)),
    nullary main_cst_0 (constant S_ .f32 0x48800000#32),
    unary main_cst_0 main_v1 (broadcastInDim S16x3 ![] bcast_S_S16x3 : (⟨S_, .f32⟩ : BufTy).Contents (Elt F) → (⟨S16x3, .f32⟩ : BufTy).Contents (Elt F)),
    binary main_v0 main_v1 main_v2 (Host.divf : (⟨S16x3, .f32⟩ : BufTy).Contents (Elt F) → (⟨S16x3, .f32⟩ : BufTy).Contents (Elt F) → (⟨S16x3, .f32⟩ : BufTy).Contents (Elt F)),
    binary main_v2 main_arg1 main_v3 ((fun l r => Host.dotGeneral dot_S16x3_S3x3_S16x3_1_0_0_1_n_n none l r) : (⟨S16x3, .f32⟩ : BufTy).Contents (Elt F) → (⟨S3x3, .f32⟩ : BufTy).Contents (Elt F) → (⟨S16x3, .f32⟩ : BufTy).Contents (Elt F)),
    unary main_arg2 main_v4 (broadcastInDim S1x3 ![1] bcast_S3_S1x3_1 : (⟨S3, .f32⟩ : BufTy).Contents (Elt F) → (⟨S1x3, .f32⟩ : BufTy).Contents (Elt F)),
    unary main_v4 main_v5 (broadcastInDim S16x3 ![0, 1] bcast_S1x3_S16x3_0_1 : (⟨S1x3, .f32⟩ : BufTy).Contents (Elt F) → (⟨S16x3, .f32⟩ : BufTy).Contents (Elt F)),
    binary main_v3 main_v5 main_v6 (addf : (⟨S16x3, .f32⟩ : BufTy).Contents (Elt F) → (⟨S16x3, .f32⟩ : BufTy).Contents (Elt F) → (⟨S16x3, .f32⟩ : BufTy).Contents (Elt F)) ]

/-- The index of the largest score: 5 operations. -/
abbrev opsArg : List (HloOp τ sig (Elt F)) :=
  [ TRef.nullary (TRef.of (T := ⟨S16x3, .i32⟩) main_call0_v0) (iotaInDim S16x3 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16x3, .f32⟩) main_v6) (TRef.of (T := ⟨S16x3, .i32⟩) main_call0_v0) (TRef.of (T := ⟨S_, .f32⟩) main_call0_cst) (TRef.of (T := ⟨S_, .i32⟩) main_call0_c) (TRef.of (T := ⟨S16, .f32⟩) main_call0_v1_0) (fun x y u v j => (Host.argReduce reducer_argmax_f32_i32 x y u v reducesTo_S16x3_S16_d1 h_S_ j).1),
    TRef.quaternary (TRef.of (T := ⟨S16x3, .f32⟩) main_v6) (TRef.of (T := ⟨S16x3, .i32⟩) main_call0_v0) (TRef.of (T := ⟨S_, .f32⟩) main_call0_cst) (TRef.of (T := ⟨S_, .i32⟩) main_call0_c) (TRef.of (T := ⟨S16, .i32⟩) main_v7) (fun x y u v j => (Host.argReduce reducer_argmax_f32_i32 x y u v reducesTo_S16x3_S16_d1 h_S_ j).2) ]

/-- The chosen expert's first weights: 23 operations. -/
abbrev opsTakeFirst : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S16, .i32⟩) main_call1_v0) (broadcastInDim S16 ![] bcast_S_S16),
    TRef.binary (TRef.of (T := ⟨S16, .i32⟩) main_v7) (TRef.of (T := ⟨S16, .i32⟩) main_call1_v0) (TRef.of (T := ⟨S16, .i1⟩) main_call1_v1) (cmpi .slt),
    TRef.nullary (TRef.of (T := ⟨S_, .i32⟩) main_call1_c_0) (constantI S_ 32 3#32),
    TRef.unary (TRef.of (T := ⟨S_, .i32⟩) main_call1_c_0) (TRef.of (T := ⟨S16, .i32⟩) main_call1_v2) (broadcastInDim S16 ![] bcast_S_S16),
    TRef.binary (TRef.of (T := ⟨S16, .i32⟩) main_v7) (TRef.of (T := ⟨S16, .i32⟩) main_call1_v2) (TRef.of (T := ⟨S16, .i32⟩) main_call1_v3) addi,
    TRef.ternary (TRef.of (T := ⟨S16, .i1⟩) main_call1_v1) (TRef.of (T := ⟨S16, .i32⟩) main_call1_v3) (TRef.of (T := ⟨S16, .i32⟩) main_v7) (TRef.of (T := ⟨S16, .i32⟩) main_call1_v4) select,
    TRef.unary (TRef.of (T := ⟨S16, .i32⟩) main_call1_v4) (TRef.of (T := ⟨S16x1, .i32⟩) main_call1_v5) (broadcastInDim S16x1 ![0] bcast_S16_S16x1_0),
    TRef.nullary (TRef.of (T := ⟨S1, .i32⟩) main_call1_c_1) (constantI S1 32 2#32),
    TRef.nullary (TRef.of (T := ⟨S_, .i32⟩) main_call1_c_2) (constantI S_ 32 0#32),
    TRef.unary (TRef.of (T := ⟨S_, .i32⟩) main_call1_c_2) (TRef.of (T := ⟨S16x1, .i32⟩) main_call1_v6) (broadcastInDim S16x1 ![] bcast_S_S16x1),
    TRef.binary (TRef.of (T := ⟨S16x1, .i32⟩) main_call1_v5) (TRef.of (T := ⟨S16x1, .i32⟩) main_call1_v6) (TRef.of (T := ⟨S16x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S16x1, .i32⟩) main_call1_v9) (broadcastInDim S16x1 ![0, 1] bcast_S1x1_S16x1_0_1),
    TRef.binary (TRef.of (T := ⟨S16x1, .i32⟩) main_call1_v5) (TRef.of (T := ⟨S16x1, .i32⟩) main_call1_v9) (TRef.of (T := ⟨S16x1, .i1⟩) main_call1_v10) (cmpi .sle),
    TRef.binary (TRef.of (T := ⟨S16x1, .i1⟩) main_call1_v7) (TRef.of (T := ⟨S16x1, .i1⟩) main_call1_v10) (TRef.of (T := ⟨S16x1, .i1⟩) main_call1_v11) andi,
    TRef.nullary (TRef.of (T := ⟨S_, .i1⟩) main_call1_c_3) (constantI S_ 1 1#1),
    TRef.binary (TRef.of (T := ⟨S16x1, .i1⟩) main_call1_v11) (TRef.of (T := ⟨S_, .i1⟩) main_call1_c_3) (TRef.of (T := ⟨S16, .i1⟩) main_call1_v12) (fun x v => Host.reduce IntOp.andi x v reducesTo_S16x1_S16_d1 h_S_),
    TRef.binary (TRef.of (T := ⟨S3x3x768, .f32⟩) main_arg3) (TRef.of (T := ⟨S16x1, .i32⟩) main_call1_v5) (TRef.of (T := ⟨S16x3x768, .f32⟩) main_call1_v13) (fun x i => Host.gather gather_S3x3x768_S16x1_S16x3x768_12_0_n_n_0_1_13768 x i),
    TRef.unary (TRef.of (T := ⟨S16, .i1⟩) main_call1_v12) (TRef.of (T := ⟨S16x3x768, .i1⟩) main_call1_v14) (broadcastInDim S16x3x768 ![0] bcast_S16_S16x3x768_0),
    TRef.nullary (TRef.of (T := ⟨S_, .f32⟩) main_call1_cst) (constant S_ .f32 0x7FC00000#32),
    TRef.unary (TRef.of (T := ⟨S_, .f32⟩) main_call1_cst) (TRef.of (T := ⟨S16x3x768, .f32⟩) main_call1_v15) (broadcastInDim S16x3x768 ![] bcast_S_S16x3x768),
    TRef.ternary (TRef.of (T := ⟨S16x3x768, .i1⟩) main_call1_v14) (TRef.of (T := ⟨S16x3x768, .f32⟩) main_call1_v13) (TRef.of (T := ⟨S16x3x768, .f32⟩) main_call1_v15) (TRef.of (T := ⟨S16x3x768, .f32⟩) main_v8) select ]

/-- The chosen expert's first bias: 23 operations. -/
abbrev opsTakeFirstBias : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S16, .i32⟩) main_call2_v0) (broadcastInDim S16 ![] bcast_S_S16),
    TRef.binary (TRef.of (T := ⟨S16, .i32⟩) main_v7) (TRef.of (T := ⟨S16, .i32⟩) main_call2_v0) (TRef.of (T := ⟨S16, .i1⟩) main_call2_v1) (cmpi .slt),
    TRef.nullary (TRef.of (T := ⟨S_, .i32⟩) main_call2_c_0) (constantI S_ 32 3#32),
    TRef.unary (TRef.of (T := ⟨S_, .i32⟩) main_call2_c_0) (TRef.of (T := ⟨S16, .i32⟩) main_call2_v2) (broadcastInDim S16 ![] bcast_S_S16),
    TRef.binary (TRef.of (T := ⟨S16, .i32⟩) main_v7) (TRef.of (T := ⟨S16, .i32⟩) main_call2_v2) (TRef.of (T := ⟨S16, .i32⟩) main_call2_v3) addi,
    TRef.ternary (TRef.of (T := ⟨S16, .i1⟩) main_call2_v1) (TRef.of (T := ⟨S16, .i32⟩) main_call2_v3) (TRef.of (T := ⟨S16, .i32⟩) main_v7) (TRef.of (T := ⟨S16, .i32⟩) main_call2_v4) select,
    TRef.unary (TRef.of (T := ⟨S16, .i32⟩) main_call2_v4) (TRef.of (T := ⟨S16x1, .i32⟩) main_call2_v5) (broadcastInDim S16x1 ![0] bcast_S16_S16x1_0),
    TRef.nullary (TRef.of (T := ⟨S1, .i32⟩) main_call2_c_1) (constantI S1 32 2#32),
    TRef.nullary (TRef.of (T := ⟨S_, .i32⟩) main_call2_c_2) (constantI S_ 32 0#32),
    TRef.unary (TRef.of (T := ⟨S_, .i32⟩) main_call2_c_2) (TRef.of (T := ⟨S16x1, .i32⟩) main_call2_v6) (broadcastInDim S16x1 ![] bcast_S_S16x1),
    TRef.binary (TRef.of (T := ⟨S16x1, .i32⟩) main_call2_v5) (TRef.of (T := ⟨S16x1, .i32⟩) main_call2_v6) (TRef.of (T := ⟨S16x1, .i1⟩) main_call2_v7) (cmpi .sge),
    TRef.unary (TRef.of (T := ⟨S1, .i32⟩) main_call2_c_1) (TRef.of (T := ⟨S1x1, .i32⟩) main_call2_v8) (broadcastInDim S1x1 ![1] bcast_S1_S1x1_1),
    TRef.unary (TRef.of (T := ⟨S1x1, .i32⟩) main_call2_v8) (TRef.of (T := ⟨S16x1, .i32⟩) main_call2_v9) (broadcastInDim S16x1 ![0, 1] bcast_S1x1_S16x1_0_1),
    TRef.binary (TRef.of (T := ⟨S16x1, .i32⟩) main_call2_v5) (TRef.of (T := ⟨S16x1, .i32⟩) main_call2_v9) (TRef.of (T := ⟨S16x1, .i1⟩) main_call2_v10) (cmpi .sle),
    TRef.binary (TRef.of (T := ⟨S16x1, .i1⟩) main_call2_v7) (TRef.of (T := ⟨S16x1, .i1⟩) main_call2_v10) (TRef.of (T := ⟨S16x1, .i1⟩) main_call2_v11) andi,
    TRef.nullary (TRef.of (T := ⟨S_, .i1⟩) main_call2_c_3) (constantI S_ 1 1#1),
    TRef.binary (TRef.of (T := ⟨S16x1, .i1⟩) main_call2_v11) (TRef.of (T := ⟨S_, .i1⟩) main_call2_c_3) (TRef.of (T := ⟨S16, .i1⟩) main_call2_v12) (fun x v => Host.reduce IntOp.andi x v reducesTo_S16x1_S16_d1 h_S_),
    TRef.binary (TRef.of (T := ⟨S3x768, .f32⟩) main_arg4) (TRef.of (T := ⟨S16x1, .i32⟩) main_call2_v5) (TRef.of (T := ⟨S16x768, .f32⟩) main_call2_v13) (fun x i => Host.gather gather_S3x768_S16x1_S16x768_1_0_n_n_0_1_1768 x i),
    TRef.unary (TRef.of (T := ⟨S16, .i1⟩) main_call2_v12) (TRef.of (T := ⟨S16x768, .i1⟩) main_call2_v14) (broadcastInDim S16x768 ![0] bcast_S16_S16x768_0),
    TRef.nullary (TRef.of (T := ⟨S_, .f32⟩) main_call2_cst) (constant S_ .f32 0x7FC00000#32),
    TRef.unary (TRef.of (T := ⟨S_, .f32⟩) main_call2_cst) (TRef.of (T := ⟨S16x768, .f32⟩) main_call2_v15) (broadcastInDim S16x768 ![] bcast_S_S16x768),
    TRef.ternary (TRef.of (T := ⟨S16x768, .i1⟩) main_call2_v14) (TRef.of (T := ⟨S16x768, .f32⟩) main_call2_v13) (TRef.of (T := ⟨S16x768, .f32⟩) main_call2_v15) (TRef.of (T := ⟨S16x768, .f32⟩) main_v9) select ]

/-- The chosen expert's logits weights: 23 operations. -/
abbrev opsTakeLogits : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S16, .i32⟩) main_call3_v0) (broadcastInDim S16 ![] bcast_S_S16),
    TRef.binary (TRef.of (T := ⟨S16, .i32⟩) main_v7) (TRef.of (T := ⟨S16, .i32⟩) main_call3_v0) (TRef.of (T := ⟨S16, .i1⟩) main_call3_v1) (cmpi .slt),
    TRef.nullary (TRef.of (T := ⟨S_, .i32⟩) main_call3_c_0) (constantI S_ 32 3#32),
    TRef.unary (TRef.of (T := ⟨S_, .i32⟩) main_call3_c_0) (TRef.of (T := ⟨S16, .i32⟩) main_call3_v2) (broadcastInDim S16 ![] bcast_S_S16),
    TRef.binary (TRef.of (T := ⟨S16, .i32⟩) main_v7) (TRef.of (T := ⟨S16, .i32⟩) main_call3_v2) (TRef.of (T := ⟨S16, .i32⟩) main_call3_v3) addi,
    TRef.ternary (TRef.of (T := ⟨S16, .i1⟩) main_call3_v1) (TRef.of (T := ⟨S16, .i32⟩) main_call3_v3) (TRef.of (T := ⟨S16, .i32⟩) main_v7) (TRef.of (T := ⟨S16, .i32⟩) main_call3_v4) select,
    TRef.unary (TRef.of (T := ⟨S16, .i32⟩) main_call3_v4) (TRef.of (T := ⟨S16x1, .i32⟩) main_call3_v5) (broadcastInDim S16x1 ![0] bcast_S16_S16x1_0),
    TRef.nullary (TRef.of (T := ⟨S1, .i32⟩) main_call3_c_1) (constantI S1 32 2#32),
    TRef.nullary (TRef.of (T := ⟨S_, .i32⟩) main_call3_c_2) (constantI S_ 32 0#32),
    TRef.unary (TRef.of (T := ⟨S_, .i32⟩) main_call3_c_2) (TRef.of (T := ⟨S16x1, .i32⟩) main_call3_v6) (broadcastInDim S16x1 ![] bcast_S_S16x1),
    TRef.binary (TRef.of (T := ⟨S16x1, .i32⟩) main_call3_v5) (TRef.of (T := ⟨S16x1, .i32⟩) main_call3_v6) (TRef.of (T := ⟨S16x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S16x1, .i32⟩) main_call3_v9) (broadcastInDim S16x1 ![0, 1] bcast_S1x1_S16x1_0_1),
    TRef.binary (TRef.of (T := ⟨S16x1, .i32⟩) main_call3_v5) (TRef.of (T := ⟨S16x1, .i32⟩) main_call3_v9) (TRef.of (T := ⟨S16x1, .i1⟩) main_call3_v10) (cmpi .sle),
    TRef.binary (TRef.of (T := ⟨S16x1, .i1⟩) main_call3_v7) (TRef.of (T := ⟨S16x1, .i1⟩) main_call3_v10) (TRef.of (T := ⟨S16x1, .i1⟩) main_call3_v11) andi,
    TRef.nullary (TRef.of (T := ⟨S_, .i1⟩) main_call3_c_3) (constantI S_ 1 1#1),
    TRef.binary (TRef.of (T := ⟨S16x1, .i1⟩) main_call3_v11) (TRef.of (T := ⟨S_, .i1⟩) main_call3_c_3) (TRef.of (T := ⟨S16, .i1⟩) main_call3_v12) (fun x v => Host.reduce IntOp.andi x v reducesTo_S16x1_S16_d1 h_S_),
    TRef.binary (TRef.of (T := ⟨S3x768x200, .f32⟩) main_arg5) (TRef.of (T := ⟨S16x1, .i32⟩) main_call3_v5) (TRef.of (T := ⟨S16x768x200, .f32⟩) main_call3_v13) (fun x i => Host.gather gather_S3x768x200_S16x1_S16x768x200_12_0_n_n_0_1_1768200 x i),
    TRef.unary (TRef.of (T := ⟨S16, .i1⟩) main_call3_v12) (TRef.of (T := ⟨S16x768x200, .i1⟩) main_call3_v14) (broadcastInDim S16x768x200 ![0] bcast_S16_S16x768x200_0),
    TRef.nullary (TRef.of (T := ⟨S_, .f32⟩) main_call3_cst) (constant S_ .f32 0x7FC00000#32),
    TRef.unary (TRef.of (T := ⟨S_, .f32⟩) main_call3_cst) (TRef.of (T := ⟨S16x768x200, .f32⟩) main_call3_v15) (broadcastInDim S16x768x200 ![] bcast_S_S16x768x200),
    TRef.ternary (TRef.of (T := ⟨S16x768x200, .i1⟩) main_call3_v14) (TRef.of (T := ⟨S16x768x200, .f32⟩) main_call3_v13) (TRef.of (T := ⟨S16x768x200, .f32⟩) main_call3_v15) (TRef.of (T := ⟨S16x768x200, .f32⟩) main_v10) select ]

/-- The chosen expert's boxes weights: 23 operations. -/
abbrev opsTakeBoxes : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S16, .i32⟩) main_call4_v0) (broadcastInDim S16 ![] bcast_S_S16),
    TRef.binary (TRef.of (T := ⟨S16, .i32⟩) main_v7) (TRef.of (T := ⟨S16, .i32⟩) main_call4_v0) (TRef.of (T := ⟨S16, .i1⟩) main_call4_v1) (cmpi .slt),
    TRef.nullary (TRef.of (T := ⟨S_, .i32⟩) main_call4_c_0) (constantI S_ 32 3#32),
    TRef.unary (TRef.of (T := ⟨S_, .i32⟩) main_call4_c_0) (TRef.of (T := ⟨S16, .i32⟩) main_call4_v2) (broadcastInDim S16 ![] bcast_S_S16),
    TRef.binary (TRef.of (T := ⟨S16, .i32⟩) main_v7) (TRef.of (T := ⟨S16, .i32⟩) main_call4_v2) (TRef.of (T := ⟨S16, .i32⟩) main_call4_v3) addi,
    TRef.ternary (TRef.of (T := ⟨S16, .i1⟩) main_call4_v1) (TRef.of (T := ⟨S16, .i32⟩) main_call4_v3) (TRef.of (T := ⟨S16, .i32⟩) main_v7) (TRef.of (T := ⟨S16, .i32⟩) main_call4_v4) select,
    TRef.unary (TRef.of (T := ⟨S16, .i32⟩) main_call4_v4) (TRef.of (T := ⟨S16x1, .i32⟩) main_call4_v5) (broadcastInDim S16x1 ![0] bcast_S16_S16x1_0),
    TRef.nullary (TRef.of (T := ⟨S1, .i32⟩) main_call4_c_1) (constantI S1 32 2#32),
    TRef.nullary (TRef.of (T := ⟨S_, .i32⟩) main_call4_c_2) (constantI S_ 32 0#32),
    TRef.unary (TRef.of (T := ⟨S_, .i32⟩) main_call4_c_2) (TRef.of (T := ⟨S16x1, .i32⟩) main_call4_v6) (broadcastInDim S16x1 ![] bcast_S_S16x1),
    TRef.binary (TRef.of (T := ⟨S16x1, .i32⟩) main_call4_v5) (TRef.of (T := ⟨S16x1, .i32⟩) main_call4_v6) (TRef.of (T := ⟨S16x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S16x1, .i32⟩) main_call4_v9) (broadcastInDim S16x1 ![0, 1] bcast_S1x1_S16x1_0_1),
    TRef.binary (TRef.of (T := ⟨S16x1, .i32⟩) main_call4_v5) (TRef.of (T := ⟨S16x1, .i32⟩) main_call4_v9) (TRef.of (T := ⟨S16x1, .i1⟩) main_call4_v10) (cmpi .sle),
    TRef.binary (TRef.of (T := ⟨S16x1, .i1⟩) main_call4_v7) (TRef.of (T := ⟨S16x1, .i1⟩) main_call4_v10) (TRef.of (T := ⟨S16x1, .i1⟩) main_call4_v11) andi,
    TRef.nullary (TRef.of (T := ⟨S_, .i1⟩) main_call4_c_3) (constantI S_ 1 1#1),
    TRef.binary (TRef.of (T := ⟨S16x1, .i1⟩) main_call4_v11) (TRef.of (T := ⟨S_, .i1⟩) main_call4_c_3) (TRef.of (T := ⟨S16, .i1⟩) main_call4_v12) (fun x v => Host.reduce IntOp.andi x v reducesTo_S16x1_S16_d1 h_S_),
    TRef.binary (TRef.of (T := ⟨S3x768x400, .f32⟩) main_arg6) (TRef.of (T := ⟨S16x1, .i32⟩) main_call4_v5) (TRef.of (T := ⟨S16x768x400, .f32⟩) main_call4_v13) (fun x i => Host.gather gather_S3x768x400_S16x1_S16x768x400_12_0_n_n_0_1_1768400 x i),
    TRef.unary (TRef.of (T := ⟨S16, .i1⟩) main_call4_v12) (TRef.of (T := ⟨S16x768x400, .i1⟩) main_call4_v14) (broadcastInDim S16x768x400 ![0] bcast_S16_S16x768x400_0),
    TRef.nullary (TRef.of (T := ⟨S_, .f32⟩) main_call4_cst) (constant S_ .f32 0x7FC00000#32),
    TRef.unary (TRef.of (T := ⟨S_, .f32⟩) main_call4_cst) (TRef.of (T := ⟨S16x768x400, .f32⟩) main_call4_v15) (broadcastInDim S16x768x400 ![] bcast_S_S16x768x400),
    TRef.ternary (TRef.of (T := ⟨S16x768x400, .i1⟩) main_call4_v14) (TRef.of (T := ⟨S16x768x400, .f32⟩) main_call4_v13) (TRef.of (T := ⟨S16x768x400, .f32⟩) main_call4_v15) (TRef.of (T := ⟨S16x768x400, .f32⟩) main_v11) select ]

/-- The hidden layer: 5 operations. -/
abbrev opsHidden : List (HloOp τ sig (Elt F)) :=
  [ binary main_v2 main_v8 main_v12 ((fun l r => Host.dotGeneral dot_S16x3_S16x3x768_S16x768_1_1_n_2_0_0 none l r) : (⟨S16x3, .f32⟩ : BufTy).Contents (Elt F) → (⟨S16x3x768, .f32⟩ : BufTy).Contents (Elt F) → (⟨S16x768, .f32⟩ : BufTy).Contents (Elt F)),
    binary main_v12 main_v9 main_v13 (addf : (⟨S16x768, .f32⟩ : BufTy).Contents (Elt F) → (⟨S16x768, .f32⟩ : BufTy).Contents (Elt F) → (⟨S16x768, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16x768, .f32⟩) main_call5_v0) (broadcastInDim S16x768 ![] bcast_S_S16x768),
    TRef.binary (TRef.of (T := ⟨S16x768, .f32⟩) main_v13) (TRef.of (T := ⟨S16x768, .f32⟩) main_call5_v0) (TRef.of (T := ⟨S16x768, .f32⟩) main_v14) maximumf ]

/-- The two results: 12 operations. -/
abbrev opsOut : List (HloOp τ sig (Elt F)) :=
  [ binary main_v14 main_v10 main_v15 ((fun l r => Host.dotGeneral dot_S16x768_S16x768x200_S16x200_1_1_n_2_0_0 none l r) : (⟨S16x768, .f32⟩ : BufTy).Contents (Elt F) → (⟨S16x768x200, .f32⟩ : BufTy).Contents (Elt F) → (⟨S16x200, .f32⟩ : BufTy).Contents (Elt F)),
    reshape main_v15 main_v16 (rfl : (.f32 : EltTy) = .f32) shapeCasts_S16x200_S16x100x2,
    binary main_v14 main_v11 main_v17 ((fun l r => Host.dotGeneral dot_S16x768_S16x768x400_S16x400_1_1_n_2_0_0 none l r) : (⟨S16x768, .f32⟩ : BufTy).Contents (Elt F) → (⟨S16x768x400, .f32⟩ : BufTy).Contents (Elt F) → (⟨S16x400, .f32⟩ : BufTy).Contents (Elt F)),
    unary main_v17 main_v18 (Host.negf : (⟨S16x400, .f32⟩ : BufTy).Contents (Elt F) → (⟨S16x400, .f32⟩ : BufTy).Contents (Elt F)),
    unary main_v18 main_v19 (Host.exp : (⟨S16x400, .f32⟩ : BufTy).Contents (Elt F) → (⟨S16x400, .f32⟩ : BufTy).Contents (Elt F)),
    nullary main_cst_1 (constant S_ .f32 0x3F800000#32),
    unary main_cst_1 main_v20 (broadcastInDim S16x400 ![] bcast_S_S16x400 : (⟨S_, .f32⟩ : BufTy).Contents (Elt F) → (⟨S16x400, .f32⟩ : BufTy).Contents (Elt F)),
    binary main_v20 main_v19 main_v21 (addf : (⟨S16x400, .f32⟩ : BufTy).Contents (Elt F) → (⟨S16x400, .f32⟩ : BufTy).Contents (Elt F) → (⟨S16x400, .f32⟩ : BufTy).Contents (Elt F)),
    nullary main_cst_2 (constant S_ .f32 0x3F800000#32),
    unary main_cst_2 main_v22 (broadcastInDim S16x400 ![] bcast_S_S16x400 : (⟨S_, .f32⟩ : BufTy).Contents (Elt F) → (⟨S16x400, .f32⟩ : BufTy).Contents (Elt F)),
    binary main_v22 main_v21 main_v23 (Host.divf : (⟨S16x400, .f32⟩ : BufTy).Contents (Elt F) → (⟨S16x400, .f32⟩ : BufTy).Contents (Elt F) → (⟨S16x400, .f32⟩ : BufTy).Contents (Elt F)),
    reshape main_v23 main_v24 (rfl : (.f32 : EltTy) = .f32) shapeCasts_S16x400_S16x100x4 ]

/-- The whole program. -/
abbrev ops : List (HloOp τ sig (Elt F)) :=
  opsPool ++ (opsArg ++ (opsTakeFirst ++ (opsTakeFirstBias ++ (opsTakeLogits ++ (opsTakeBoxes ++ (opsHidden ++ (opsOut)))))))

set_option maxHeartbeats 4000000 in
theorem main_eq (c : Dev nD) : main (F := F) c = seq ops := rfl
/-- No buffer is scoped. -/
theorem scopedRefs_eq : (Finset.univ.filter fun b : Ref sig .tc => b.isScoped) = ∅ := by decide
/-- No counter is scoped. -/
theorem scopedSems_eq : (Finset.univ.filter fun sm : SemLoc sig => sm.isScoped .tc) = ∅ := by decide
/-- The stretch `opsPool` stays within the program's buffers. -/
theorem opsPool_sub : (opsPool : List (HloOp τ sig (Elt F))).Forall fun op => op.bufs ⊆ tcRefs τ sig :=
  ⟨nullary_bufs_sub .., binary_bufs_sub .., nullary_bufs_sub .., unary_bufs_sub .., binary_bufs_sub .., binary_bufs_sub .., unary_bufs_sub .., unary_bufs_sub .., binary_bufs_sub ..⟩
/-- The stretch `opsArg` stays within the program's buffers. -/
theorem opsArg_sub : (opsArg : List (HloOp τ sig (Elt F))).Forall fun op => op.bufs ⊆ tcRefs τ sig :=
  ⟨nullary_bufs_sub .., nullary_bufs_sub .., nullary_bufs_sub .., quaternary_bufs_sub .., quaternary_bufs_sub ..⟩
/-- The stretch `opsTakeFirst` stays within the program's buffers. -/
theorem opsTakeFirst_sub : (opsTakeFirst : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- The stretch `opsTakeFirstBias` stays within the program's buffers. -/
theorem opsTakeFirstBias_sub : (opsTakeFirstBias : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- The stretch `opsTakeLogits` stays within the program's buffers. -/
theorem opsTakeLogits_sub : (opsTakeLogits : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- The stretch `opsTakeBoxes` stays within the program's buffers. -/
theorem opsTakeBoxes_sub : (opsTakeBoxes : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
/-- The stretch `opsHidden` stays within the program's buffers. -/
theorem opsHidden_sub : (opsHidden : List (HloOp τ sig (Elt F))).Forall fun op => op.bufs ⊆ tcRefs τ sig :=
  ⟨binary_bufs_sub .., binary_bufs_sub .., nullary_bufs_sub .., unary_bufs_sub .., binary_bufs_sub ..⟩
/-- The stretch `opsOut` stays within the program's buffers. -/
theorem opsOut_sub : (opsOut : List (HloOp τ sig (Elt F))).Forall fun op => op.bufs ⊆ tcRefs τ sig :=
  ⟨binary_bufs_sub .., reshape_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩
/-- What holds along two lists holds along their concatenation. -/
theorem forall_append {α : Type*} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)
/-- Every operation stays within the program's buffers. -/
theorem ops_sub : (ops : List (HloOp τ sig (Elt F))).Forall fun op => op.bufs ⊆ tcRefs τ sig :=
  forall_append opsPool_sub (forall_append opsArg_sub (forall_append opsTakeFirst_sub (forall_append opsTakeFirstBias_sub (forall_append opsTakeLogits_sub (forall_append opsTakeBoxes_sub (forall_append opsHidden_sub (opsOut_sub)))))))

/-- The stretch `opsPool` allocates nothing. -/
theorem opsPool_fresh : (opsPool : List (HloOp τ sig (Elt F))).Forall fun op => op.fresh = ∅ :=
  ⟨rfl, rfl, rfl, rfl, rfl, rfl, rfl, rfl, rfl⟩
/-- The stretch `opsArg` allocates nothing. -/
theorem opsArg_fresh : (opsArg : List (HloOp τ sig (Elt F))).Forall fun op => op.fresh = ∅ :=
  ⟨rfl, rfl, rfl, rfl, rfl⟩
/-- The stretch `opsTakeFirst` allocates nothing. -/
theorem opsTakeFirst_fresh : (opsTakeFirst : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The stretch `opsTakeFirstBias` allocates nothing. -/
theorem opsTakeFirstBias_fresh : (opsTakeFirstBias : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The stretch `opsTakeLogits` allocates nothing. -/
theorem opsTakeLogits_fresh : (opsTakeLogits : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The stretch `opsTakeBoxes` allocates nothing. -/
theorem opsTakeBoxes_fresh : (opsTakeBoxes : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The stretch `opsHidden` allocates nothing. -/
theorem opsHidden_fresh : (opsHidden : List (HloOp τ sig (Elt F))).Forall fun op => op.fresh = ∅ :=
  ⟨rfl, rfl, rfl, rfl, rfl⟩
/-- The stretch `opsOut` allocates nothing. -/
theorem opsOut_fresh : (opsOut : List (HloOp τ sig (Elt F))).Forall fun op => op.fresh = ∅ :=
  ⟨rfl, rfl, rfl, rfl, rfl, rfl, rfl, rfl, rfl, rfl, rfl, rfl⟩
/-- No operation allocates. -/
theorem ops_fresh : (ops : List (HloOp τ sig (Elt F))).Forall fun op => op.fresh = ∅ :=
  forall_append opsPool_fresh (forall_append opsArg_fresh (forall_append opsTakeFirst_fresh (forall_append opsTakeFirstBias_fresh (forall_append opsTakeLogits_fresh (forall_append opsTakeBoxes_fresh (forall_append opsHidden_fresh (opsOut_fresh)))))))

/-! ## What each stretch leaves -/

/-- Two stretches one after the other. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

/-- A stretch keeps every buffer of a list none of whose members its operations write. -/
theorem after_keep (L : List (Ref sig .tc)) (l : List (HloOp τ sig (Elt F)))
    (h : l.Forall fun op => ∃ y : Ref sig .tc, op.writes = {Proc.devRef .tc y} ∧ y ∉ L)
    (V : Valuation τ sig (Elt F)) (b : Ref sig .tc) (hb : b ∈ L) : after l V (Proc.devRef .tc b) = V (Proc.devRef .tc b) :=
  after_of_forall_not_mem l V fun op hop => by
    obtain ⟨y, hy, hL⟩ := List.forall_iff_forall_mem.mp h op hop
    rw [hy, Finset.mem_singleton]
    exact devRef_ne_of_ne fun e => hL (e ▸ hb)

/-- What the stretch `opsPool` keeps. -/
abbrev keptPool : List (Ref sig .tc) := [main_arg0, main_arg1, main_arg2, main_arg3, main_arg4, main_arg5, main_arg6]
/-- The stretch `opsPool` leaves what it keeps as it was. -/
theorem afterPool_keep (V : Valuation τ sig (Elt F)) (b : Ref sig .tc) (hb : b ∈ keptPool) :
    after opsPool V (Proc.devRef .tc b) = V (Proc.devRef .tc b) :=
  after_keep keptPool opsPool ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩ V b hb

/-- What the stretch `opsArg` keeps. -/
abbrev keptArg : List (Ref sig .tc) := [main_arg0, main_arg1, main_arg2, main_arg3, main_arg4, main_arg5, main_arg6, main_v2]
/-- The stretch `opsArg` leaves what it keeps as it was. -/
theorem afterArg_keep (V : Valuation τ sig (Elt F)) (b : Ref sig .tc) (hb : b ∈ keptArg) :
    after opsArg V (Proc.devRef .tc b) = V (Proc.devRef .tc b) :=
  after_keep keptArg opsArg ⟨⟨_, rfl, by decide⟩, ⟨_, rfl, by decide⟩, ⟨_, rfl, by decide⟩, ⟨_, rfl, by decide⟩, ⟨_, rfl, by decide⟩⟩ V b hb

/-- What the stretch `opsTakeFirst` keeps. -/
abbrev keptTakeFirst : List (Ref sig .tc) := [main_arg0, main_arg1, main_arg2, main_arg3, main_arg4, main_arg5, main_arg6, main_v2, main_v7]
/-- The stretch `opsTakeFirst` leaves what it keeps as it was. -/
theorem afterTakeFirst_keep (V : Valuation τ sig (Elt F)) (b : Ref sig .tc) (hb : b ∈ keptTakeFirst) :
    after opsTakeFirst V (Proc.devRef .tc b) = V (Proc.devRef .tc b) :=
  after_keep keptTakeFirst opsTakeFirst ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩ V b hb

/-- What the stretch `opsTakeFirstBias` keeps. -/
abbrev keptTakeFirstBias : List (Ref sig .tc) := [main_arg0, main_arg1, main_arg2, main_arg3, main_arg4, main_arg5, main_arg6, main_v2, main_v7, main_v8]
/-- The stretch `opsTakeFirstBias` leaves what it keeps as it was. -/
theorem afterTakeFirstBias_keep (V : Valuation τ sig (Elt F)) (b : Ref sig .tc) (hb : b ∈ keptTakeFirstBias) :
    after opsTakeFirstBias V (Proc.devRef .tc b) = V (Proc.devRef .tc b) :=
  after_keep keptTakeFirstBias opsTakeFirstBias ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩ V b hb

/-- What the stretch `opsTakeLogits` keeps. -/
abbrev keptTakeLogits : List (Ref sig .tc) := [main_arg0, main_arg1, main_arg2, main_arg3, main_arg4, main_arg5, main_arg6, main_v2, main_v7, main_v8, main_v9]
/-- The stretch `opsTakeLogits` leaves what it keeps as it was. -/
theorem afterTakeLogits_keep (V : Valuation τ sig (Elt F)) (b : Ref sig .tc) (hb : b ∈ keptTakeLogits) :
    after opsTakeLogits V (Proc.devRef .tc b) = V (Proc.devRef .tc b) :=
  after_keep keptTakeLogits opsTakeLogits ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩ V b hb

/-- What the stretch `opsTakeBoxes` keeps. -/
abbrev keptTakeBoxes : List (Ref sig .tc) := [main_arg0, main_arg1, main_arg2, main_arg3, main_arg4, main_arg5, main_arg6, main_v2, main_v8, main_v9, main_v10]
/-- The stretch `opsTakeBoxes` leaves what it keeps as it was. -/
theorem afterTakeBoxes_keep (V : Valuation τ sig (Elt F)) (b : Ref sig .tc) (hb : b ∈ keptTakeBoxes) :
    after opsTakeBoxes V (Proc.devRef .tc b) = V (Proc.devRef .tc b) :=
  after_keep keptTakeBoxes opsTakeBoxes ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩ V b hb

/-- What the stretch `opsHidden` keeps. -/
abbrev keptHidden : List (Ref sig .tc) := [main_arg0, main_arg1, main_arg2, main_arg3, main_arg4, main_arg5, main_arg6, main_v10, main_v11]
/-- The stretch `opsHidden` leaves what it keeps as it was. -/
theorem afterHidden_keep (V : Valuation τ sig (Elt F)) (b : Ref sig .tc) (hb : b ∈ keptHidden) :
    after opsHidden V (Proc.devRef .tc b) = V (Proc.devRef .tc b) :=
  after_keep keptHidden opsHidden ⟨⟨_, rfl, by decide⟩, ⟨_, rfl, by decide⟩, ⟨_, rfl, by decide⟩, ⟨_, rfl, by decide⟩, ⟨_, rfl, by decide⟩⟩ V b hb

/-- What the stretch `opsOut` keeps. -/
abbrev keptOut : List (Ref sig .tc) := [main_arg0, main_arg1, main_arg2, main_arg3, main_arg4, main_arg5, main_arg6]
/-- The stretch `opsOut` leaves what it keeps as it was. -/
theorem afterOut_keep (V : Valuation τ sig (Elt F)) (b : Ref sig .tc) (hb : b ∈ keptOut) :
    after opsOut V (Proc.devRef .tc b) = V (Proc.devRef .tc b) :=
  after_keep keptOut opsOut ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩ V b hb

/-- The mean of each image's channel over its pixels. -/
def meanOf (x : Vec F S16x3x512x512 .f32) : Vec F S16x3 .f32 :=
  Host.divf (Host.reduceAdd x (constant S_ .f32 0x00000000#32) reducesTo_S16x3x512x512_S16x3_d2_3 h_S_)
    (broadcastInDim S16x3 ![] bcast_S_S16x3 (constant S_ .f32 0x48800000#32))
/-- The classifier's scores. -/
def scoresOf (mean : Vec F S16x3 .f32) (Wc : Vec F S3x3 .f32) (bc : Vec F S3 .f32) : Vec F S16x3 .f32 :=
  addf (Host.dotGeneral dot_S16x3_S3x3_S16x3_1_0_0_1_n_n none mean Wc)
    (broadcastInDim S16x3 ![0, 1] bcast_S1x3_S16x3_0_1 (broadcastInDim S1x3 ![1] bcast_S3_S1x3_1 bc))
/-- The index of each row's largest score. -/
def indexOf (scores : Vec F S16x3 .f32) : Vec F S16 .i32 := fun j =>
  (Host.argReduce reducer_argmax_f32_i32 scores (iotaInDim S16x3 32 1) (constant S_ .f32 0xFF800000#32) (constantI S_ 32 0#32)
    reducesTo_S16x3_S16_d1 h_S_ j).2
/-- Where a take at these indices starts: a negative index counts from the end. -/
def startOf (idx : Vec F S16 .i32) : Vec F S16x1 .i32 :=
  broadcastInDim S16x1 ![0] bcast_S16_S16x1_0
    (select (cmpi .slt idx (broadcastInDim S16 ![] bcast_S_S16 (constantI S_ 32 0#32)))
      (addi idx (broadcastInDim S16 ![] bcast_S_S16 (constantI S_ 32 3#32))) idx)
/-- Whether a start is in range. -/
def insideOf (start : Vec F S16x1 .i32) : Vec F S16 .i1 :=
  Host.reduce IntOp.andi
    (andi (cmpi .sge start (broadcastInDim S16x1 ![] bcast_S_S16x1 (constantI S_ 32 0#32)))
      (cmpi .sle start (broadcastInDim S16x1 ![0, 1] bcast_S1x1_S16x1_0_1 (broadcastInDim S1x1 ![1] bcast_S1_S1x1_1 (constantI S1 32 2#32)))))
    (constantI S_ 1 1#1) reducesTo_S16x1_S16_d1 h_S_
/-- The chosen expert's first weights, image by image. -/
def takeFirst (x : Vec F S3x3x768 .f32) (idx : Vec F S16 .i32) : Vec F S16x3x768 .f32 :=
  select (broadcastInDim S16x3x768 ![0] bcast_S16_S16x3x768_0 (insideOf (startOf idx))) (Host.gather gather_S3x3x768_S16x1_S16x3x768_12_0_n_n_0_1_13768 x (startOf idx))
    (broadcastInDim S16x3x768 ![] bcast_S_S16x3x768 (constant S_ .f32 0x7FC00000#32))
/-- The chosen expert's first bias, image by image. -/
def takeFirstBias (x : Vec F S3x768 .f32) (idx : Vec F S16 .i32) : Vec F S16x768 .f32 :=
  select (broadcastInDim S16x768 ![0] bcast_S16_S16x768_0 (insideOf (startOf idx))) (Host.gather gather_S3x768_S16x1_S16x768_1_0_n_n_0_1_1768 x (startOf idx))
    (broadcastInDim S16x768 ![] bcast_S_S16x768 (constant S_ .f32 0x7FC00000#32))
/-- The chosen expert's logits weights, image by image. -/
def takeLogits (x : Vec F S3x768x200 .f32) (idx : Vec F S16 .i32) : Vec F S16x768x200 .f32 :=
  select (broadcastInDim S16x768x200 ![0] bcast_S16_S16x768x200_0 (insideOf (startOf idx))) (Host.gather gather_S3x768x200_S16x1_S16x768x200_12_0_n_n_0_1_1768200 x (startOf idx))
    (broadcastInDim S16x768x200 ![] bcast_S_S16x768x200 (constant S_ .f32 0x7FC00000#32))
/-- The chosen expert's boxes weights, image by image. -/
def takeBoxes (x : Vec F S3x768x400 .f32) (idx : Vec F S16 .i32) : Vec F S16x768x400 .f32 :=
  select (broadcastInDim S16x768x400 ![0] bcast_S16_S16x768x400_0 (insideOf (startOf idx))) (Host.gather gather_S3x768x400_S16x1_S16x768x400_12_0_n_n_0_1_1768400 x (startOf idx))
    (broadcastInDim S16x768x400 ![] bcast_S_S16x768x400 (constant S_ .f32 0x7FC00000#32))
/-- The hidden layer: a matrix-vector product per image, a bias, and the positive part. -/
def hiddenOf (mean : Vec F S16x3 .f32) (w : Vec F S16x3x768 .f32) (b : Vec F S16x768 .f32) : Vec F S16x768 .f32 :=
  maximumf (addf (Host.dotGeneral dot_S16x3_S16x3x768_S16x768_1_1_n_2_0_0 none mean w) b)
    (broadcastInDim S16x768 ![] bcast_S_S16x768 (constant S_ .f32 0x00000000#32))
/-- The logits before they are laid out as pairs. -/
def flatLogits (h : Vec F S16x768 .f32) (w : Vec F S16x768x200 .f32) : Vec F S16x200 .f32 :=
  Host.dotGeneral dot_S16x768_S16x768x200_S16x200_1_1_n_2_0_0 none h w
/-- The boxes before they are laid out as quadruples: the logistic function of a matrix-vector product. -/
def flatBoxes (h : Vec F S16x768 .f32) (w : Vec F S16x768x400 .f32) : Vec F S16x400 .f32 :=
  Host.divf (broadcastInDim S16x400 ![] bcast_S_S16x400 (constant S_ .f32 0x3F800000#32))
    (addf (broadcastInDim S16x400 ![] bcast_S_S16x400 (constant S_ .f32 0x3F800000#32))
      (Host.exp (Host.negf (Host.dotGeneral dot_S16x768_S16x768x400_S16x400_1_1_n_2_0_0 none h w))))

/-- The pooling stretch leaves the means. -/
theorem afterPool_main_v2 (V : Valuation τ sig (Elt F)) : after opsPool V (Proc.devRef .tc main_v2) = meanOf (V (Proc.devRef .tc main_arg0)) := by
  after_reads_simp; rfl
/-- The pooling stretch leaves the scores. -/
theorem afterPool_main_v6 (V : Valuation τ sig (Elt F)) : after opsPool V (Proc.devRef .tc main_v6) = scoresOf (meanOf (V (Proc.devRef .tc main_arg0))) (V (Proc.devRef .tc main_arg1)) (V (Proc.devRef .tc main_arg2)) := by
  after_reads_simp; rfl
/-- The argmax stretch leaves the chosen index. -/
theorem afterArg_main_v7 (V : Valuation τ sig (Elt F)) : after opsArg V (Proc.devRef .tc main_v7) = indexOf (V (Proc.devRef .tc main_v6)) := by
  after_reads_simp; rfl
/-- This stretch leaves the taken first weights. -/
theorem afterTakeFirst_main_v8 (V : Valuation τ sig (Elt F)) : after opsTakeFirst V (Proc.devRef .tc main_v8) = takeFirst (V (Proc.devRef .tc main_arg3)) (V (Proc.devRef .tc main_v7)) := by
  after_reads_simp; rfl
/-- This stretch leaves the taken first bias. -/
theorem afterTakeFirstBias_main_v9 (V : Valuation τ sig (Elt F)) : after opsTakeFirstBias V (Proc.devRef .tc main_v9) = takeFirstBias (V (Proc.devRef .tc main_arg4)) (V (Proc.devRef .tc main_v7)) := by
  after_reads_simp; rfl
/-- This stretch leaves the taken logits weights. -/
theorem afterTakeLogits_main_v10 (V : Valuation τ sig (Elt F)) : after opsTakeLogits V (Proc.devRef .tc main_v10) = takeLogits (V (Proc.devRef .tc main_arg5)) (V (Proc.devRef .tc main_v7)) := by
  after_reads_simp; rfl
/-- This stretch leaves the taken boxes weights. -/
theorem afterTakeBoxes_main_v11 (V : Valuation τ sig (Elt F)) : after opsTakeBoxes V (Proc.devRef .tc main_v11) = takeBoxes (V (Proc.devRef .tc main_arg6)) (V (Proc.devRef .tc main_v7)) := by
  after_reads_simp; rfl
/-- This stretch leaves the hidden layer. -/
theorem afterHidden_main_v14 (V : Valuation τ sig (Elt F)) : after opsHidden V (Proc.devRef .tc main_v14) = hiddenOf (V (Proc.devRef .tc main_v2)) (V (Proc.devRef .tc main_v8)) (V (Proc.devRef .tc main_v9)) := by
  after_reads_simp; rfl
/-- The last stretch leaves the logits in pairs. -/
theorem afterOut_main_v16 (V : Valuation τ sig (Elt F)) : after opsOut V (Proc.devRef .tc main_v16) = shapeCast S16x100x2 (flatLogits (V (Proc.devRef .tc main_v14)) (V (Proc.devRef .tc main_v10))) shapeCasts_S16x200_S16x100x2 := by
  after_reads_simp; rfl
/-- The last stretch leaves the boxes in quadruples. -/
theorem afterOut_main_v24 (V : Valuation τ sig (Elt F)) : after opsOut V (Proc.devRef .tc main_v24) = shapeCast S16x100x4 (flatBoxes (V (Proc.devRef .tc main_v14)) (V (Proc.devRef .tc main_v11))) shapeCasts_S16x400_S16x100x4 := by
  after_reads_simp; rfl

/-! ## The whole run -/

/-- The hidden layer of the whole program, from the arguments. -/
def hiddenAll (x0 : Vec F S16x3x512x512 .f32) (x1 : Vec F S3x3 .f32) (x2 : Vec F S3 .f32) (x3 : Vec F S3x3x768 .f32) (x4 : Vec F S3x768 .f32) :
    Vec F S16x768 .f32 :=
  hiddenOf (meanOf x0) (takeFirst x3 (indexOf (scoresOf (meanOf x0) x1 x2))) (takeFirstBias x4 (indexOf (scoresOf (meanOf x0) x1 x2)))
/-- The first result, from the arguments. -/
def logitsAll (x0 : Vec F S16x3x512x512 .f32) (x1 : Vec F S3x3 .f32) (x2 : Vec F S3 .f32) (x3 : Vec F S3x3x768 .f32) (x4 : Vec F S3x768 .f32)
    (x5 : Vec F S3x768x200 .f32) : Vec F S16x200 .f32 :=
  flatLogits (hiddenAll x0 x1 x2 x3 x4) (takeLogits x5 (indexOf (scoresOf (meanOf x0) x1 x2)))
/-- The second result, from the arguments. -/
def boxesAll (x0 : Vec F S16x3x512x512 .f32) (x1 : Vec F S3x3 .f32) (x2 : Vec F S3 .f32) (x3 : Vec F S3x3x768 .f32) (x4 : Vec F S3x768 .f32)
    (x6 : Vec F S3x768x400 .f32) : Vec F S16x400 .f32 :=
  flatBoxes (hiddenAll x0 x1 x2 x3 x4) (takeBoxes x6 (indexOf (scoresOf (meanOf x0) x1 x2)))

/-- Every argument ends as launched. -/
theorem after_arg (V : Valuation τ sig (Elt F)) (b : Ref sig .tc) (hb : b ∈ [main_arg0, main_arg1, main_arg2, main_arg3, main_arg4, main_arg5, main_arg6]) : after ops V (Proc.devRef .tc b) = V (Proc.devRef .tc b) := by
  have hk : ∀ {L : List (Ref sig .tc)}, b ∈ [main_arg0, main_arg1, main_arg2, main_arg3, main_arg4, main_arg5, main_arg6] ++ L := fun {L} => List.mem_append_left L hb
  simp only [ops, after_append]
  rw [afterOut_keep _ b (hk (L := [])), afterHidden_keep _ b (hk (L := [main_v10, main_v11])), afterTakeBoxes_keep _ b (hk (L := [main_v2, main_v8, main_v9, main_v10])), afterTakeLogits_keep _ b (hk (L := [main_v2, main_v7, main_v8, main_v9])), afterTakeFirstBias_keep _ b (hk (L := [main_v2, main_v7, main_v8])), afterTakeFirst_keep _ b (hk (L := [main_v2, main_v7])), afterArg_keep _ b (hk (L := [main_v2])), afterPool_keep _ b (hk (L := []))]

/-- The hidden layer, from the arguments. -/
theorem after_v14 (V : Valuation τ sig (Elt F)) :
    after opsHidden (after opsTakeBoxes (after opsTakeLogits (after opsTakeFirstBias (after opsTakeFirst (after opsArg (after opsPool V))))))
      (Proc.devRef .tc main_v14) = hiddenAll (V (Proc.devRef .tc main_arg0)) (V (Proc.devRef .tc main_arg1)) (V (Proc.devRef .tc main_arg2))
        (V (Proc.devRef .tc main_arg3)) (V (Proc.devRef .tc main_arg4)) := by
  unfold hiddenAll
  rw [afterHidden_main_v14,
    afterTakeBoxes_keep _ main_v2 (by decide), afterTakeLogits_keep _ main_v2 (by decide), afterTakeFirstBias_keep _ main_v2 (by decide),
    afterTakeFirst_keep _ main_v2 (by decide), afterArg_keep _ main_v2 (by decide), afterPool_main_v2,
    afterTakeBoxes_keep _ main_v8 (by decide), afterTakeLogits_keep _ main_v8 (by decide), afterTakeFirstBias_keep _ main_v8 (by decide),
    afterTakeFirst_main_v8, afterArg_keep _ main_arg3 (by decide), afterPool_keep _ main_arg3 (by decide), afterArg_main_v7, afterPool_main_v6,
    afterTakeBoxes_keep _ main_v9 (by decide), afterTakeLogits_keep _ main_v9 (by decide), afterTakeFirstBias_main_v9,
    afterTakeFirst_keep _ main_arg4 (by decide), afterArg_keep _ main_arg4 (by decide), afterPool_keep _ main_arg4 (by decide),
    afterTakeFirst_keep _ main_v7 (by decide), afterArg_main_v7, afterPool_main_v6]

/-- The first result's buffer after the whole program. -/
theorem after_main_v16 (V : Valuation τ sig (Elt F)) : after ops V (Proc.devRef .tc main_v16)
    = shapeCast S16x100x2 (logitsAll (V (Proc.devRef .tc main_arg0)) (V (Proc.devRef .tc main_arg1)) (V (Proc.devRef .tc main_arg2))
        (V (Proc.devRef .tc main_arg3)) (V (Proc.devRef .tc main_arg4)) (V (Proc.devRef .tc main_arg5))) shapeCasts_S16x200_S16x100x2 := by
  unfold logitsAll
  simp only [ops, after_append]
  rw [afterOut_main_v16, after_v14, afterHidden_keep _ main_v10 (by decide), afterTakeBoxes_keep _ main_v10 (by decide), afterTakeLogits_main_v10,
    afterTakeFirstBias_keep _ main_arg5 (by decide), afterTakeFirst_keep _ main_arg5 (by decide), afterArg_keep _ main_arg5 (by decide),
    afterPool_keep _ main_arg5 (by decide), afterTakeFirstBias_keep _ main_v7 (by decide), afterTakeFirst_keep _ main_v7 (by decide),
    afterArg_main_v7, afterPool_main_v6]

/-- The second result's buffer after the whole program. -/
theorem after_main_v24 (V : Valuation τ sig (Elt F)) : after ops V (Proc.devRef .tc main_v24)
    = shapeCast S16x100x4 (boxesAll (V (Proc.devRef .tc main_arg0)) (V (Proc.devRef .tc main_arg1)) (V (Proc.devRef .tc main_arg2))
        (V (Proc.devRef .tc main_arg3)) (V (Proc.devRef .tc main_arg4)) (V (Proc.devRef .tc main_arg6))) shapeCasts_S16x400_S16x100x4 := by
  unfold boxesAll
  simp only [ops, after_append]
  rw [afterOut_main_v24, after_v14, afterHidden_keep _ main_v11 (by decide), afterTakeBoxes_main_v11,
    afterTakeLogits_keep _ main_arg6 (by decide), afterTakeFirstBias_keep _ main_arg6 (by decide), afterTakeFirst_keep _ main_arg6 (by decide),
    afterArg_keep _ main_arg6 (by decide), afterPool_keep _ main_arg6 (by decide),
    afterTakeLogits_keep _ main_v7 (by decide), afterTakeFirstBias_keep _ main_v7 (by decide), afterTakeFirst_keep _ main_v7 (by decide),
    afterArg_main_v7, afterPool_main_v6]

/-- Every run of the reference ends with its two results at those terms, its arguments as launched and every counter at zero. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      (r.2.mem ((c.tc : Thread nD τ).loc main_v16) = shapeCast S16x100x2 (logitsAll (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))) shapeCasts_S16x200_S16x100x2
        ∧ r.2.mem ((c.tc : Thread nD τ).loc main_v24) = shapeCast S16x100x4 (boxesAll (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg6))) shapeCasts_S16x400_S16x100x4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨⟨(h c main_v16).trans (after_main_v16 _), (h c main_v24).trans (after_main_v24 _)⟩,
      (h c main_arg0).trans (after_arg _ main_arg0 (by decide)),
      (h c main_arg1).trans (after_arg _ main_arg1 (by decide)),
      (h c main_arg2).trans (after_arg _ main_arg2 (by decide)),
      (h c main_arg3).trans (after_arg _ main_arg3 (by decide)),
      (h c main_arg4).trans (after_arg _ main_arg4 (by decide)),
      (h c main_arg5).trans (after_arg _ main_arg5 (by decide)),
      (h c main_arg6).trans (after_arg _ main_arg6 (by decide))⟩, Idealize.ShloMosaic.sem_eq_zero_of_no_sems (by decide) r.2⟩)
    (run_seq scopedRefs_eq scopedSems_eq defs main (fun _ => ops) main_eq (fun _ => ops_sub) m ρ
      (fun _ => List.forall_iff_forall_mem.mp ops_fresh))

end Cert.ReferenceIdeal.Run

end
-- ==== Proof.KernelResults.lean ====
/-
  What the kernel's two results hold when the program ends: what the last point stores, laid out in pairs and in
  quadruples; and what the last point computes from, read off the arguments.
-/
module

public import proofs.«01_k».proof.Proof.KernelIdealRun
public import Idealize.ShloMosaic.Lib.StableHlo.RunRead
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.StableHlo
open Idealize.ShloMosaic.Pipeline (Dat Cfg Window)

variable {F : FTy → Type} [FloatOps F] (m : (ℓ : Loc nD τ sig) → Buf (Elt F) ℓ)

/-! ## What the region finds in the buffers the host lines before it wrote -/

/-- The classifier's bias as a row. -/
theorem entry_bias (c : Dev nD) : V m c main_call0_v0 = shapeCast S1x3 (m ((c : Thread nD τ).loc main_arg2)) shapeCasts_S3_S1x3 := by
  unfold V V0
  after_reads_simp
  rfl

/-- The logits weights with their last two axes exchanged. -/
theorem entry_logits (c : Dev nD) : V m c main_call0_v1
    = transpose S3x200x768 [0, 2, 1] (m ((c : Thread nD τ).loc main_arg5)) transposes_S3x768x200_S3x200x768_0_2_1 := by
  unfold V V0
  after_reads_simp
  rfl

/-- The boxes weights with their last two axes exchanged. -/
theorem entry_boxes (c : Dev nD) : V m c main_call0_v2
    = transpose S3x400x768 [0, 2, 1] (m ((c : Thread nD τ).loc main_arg6)) transposes_S3x768x400_S3x400x768_0_2_1 := by
  unfold V V0
  after_reads_simp
  rfl

/-! ## The windows' blocks -/

/-- Where each input window's block lies at a point: the pixels' in the point's rows, the others at the start. -/
theorem places (t : Fin cfg0.N) : win0_0.index t = ![0, 0, t.val, 0] ∧ win0_1.index t = ![0, 0] ∧ win0_2.index t = ![0, 0]
    ∧ win0_3.index t = ![0, 0, 0] ∧ win0_4.index t = ![0, 0] :=
  (by decide +kernel : ∀ t : Fin cfg0.N, win0_0.index t = ![0, 0, t.val, 0] ∧ win0_1.index t = ![0, 0] ∧ win0_2.index t = ![0, 0]
    ∧ win0_3.index t = ![0, 0, 0] ∧ win0_4.index t = ![0, 0]) t

/-- A row of a point's block is a row of the image. -/
theorem row_lt (t : Fin cfg0.N) (h : Fin 64) : t.val * 64 + h.val < 512 := by
  have h1 : t.val < 8 := Nat.lt_of_lt_of_eq t.isLt N_0
  have h2 := h.isLt
  omega

/-- The pixels' block at a point: the point's 64 rows. -/
theorem blk0_apply (c : Dev nD) (t : Fin cfg0.N) (i : Fin 16) (k : Fin 3) (h : Fin 64) (w : Fin 512) :
    iblk m c 0 t (ix4 i k h w) = m ((c : Thread nD τ).loc main_arg0) (ix4 i k ⟨t.val * 64 + h.val, row_lt t h⟩ w) := by
  blk_ext [iblk, V_main_arg0, (places t).1]

/-- The classifier's weights, whole at every point. -/
theorem blk1_eq (c : Dev nD) (t : Fin cfg0.N) : iblk m c 1 t = m ((c : Thread nD τ).loc main_arg1) := by
  funext j
  blk_ext [iblk, V_main_arg1, (places t).2.1]

/-- The classifier's bias, whole at every point. -/
theorem blk2_eq (c : Dev nD) (t : Fin cfg0.N) : iblk m c 2 t = shapeCast S1x3 (m ((c : Thread nD τ).loc main_arg2)) shapeCasts_S3_S1x3 := by
  funext j
  rw [← entry_bias]
  blk_ext [iblk, (places t).2.2.1]

/-- The first weights, whole at every point. -/
theorem blk3_eq (c : Dev nD) (t : Fin cfg0.N) : iblk m c 3 t = m ((c : Thread nD τ).loc main_arg3) := by
  funext j
  blk_ext [iblk, V_main_arg3, (places t).2.2.2.1]

/-- The first bias, whole at every point. -/
theorem blk4_eq (c : Dev nD) (t : Fin cfg0.N) : iblk m c 4 t = m ((c : Thread nD τ).loc main_arg4) := by
  funext j
  blk_ext [iblk, V_main_arg4, (places t).2.2.2.2]

/-! ## The results -/

/-- The logits' array after the region: what the last point stored. -/
theorem logits_array (c : Dev nD) : (dats m 0 c).arrAt 5 (cfgs 0).N = logitsAt m c t0_7 := by
  refine (dats m 0 c).arrAt_eq_of_after_last 5 t0_7 (by decide +kernel) _ fun j => ?_
  blk_simp
  rw [after_5]
  blk_ext

/-- The boxes' array after the region: what the last point stored. -/
theorem boxes_array (c : Dev nD) : (dats m 0 c).arrAt 6 (cfgs 0).N = boxesAt m c t0_7 := by
  refine (dats m 0 c).arrAt_eq_of_after_last 6 t0_7 (by decide +kernel) _ fun j => ?_
  blk_simp
  rw [after_6]
  blk_ext

/-- The first result: the logits in pairs. -/
theorem final_logits (c : Dev nD) : finalV m c main_v0_0 = shapeCast S16x100x2 (logitsAt m c t0_7) shapeCasts_S16x200_S16x100x2 := by
  unfold finalV Pipeline.afterTail₀
  after_reads_simp
  have h := Pipeline.withArrays_arr (cfgs 0).spec (by decide) c (V0 m c) (fun w => (dats m 0 c).arrAt w (cfgs 0).N) 5
  rw [logits_array] at h
  exact congrArg (fun X => shapeCast S16x100x2 X shapeCasts_S16x200_S16x100x2) h

/-- The second result: the boxes in quadruples. -/
theorem final_boxes (c : Dev nD) : finalV m c main_v0_1 = shapeCast S16x100x4 (boxesAt m c t0_7) shapeCasts_S16x400_S16x100x4 := by
  unfold finalV Pipeline.afterTail₀
  after_reads_simp
  have h := Pipeline.withArrays_arr (cfgs 0).spec (by decide) c (V0 m c) (fun w => (dats m 0 c).arrAt w (cfgs 0).N) 6
  rw [boxes_array] at h
  exact congrArg (fun X => shapeCast S16x100x4 X shapeCasts_S16x400_S16x100x4) h

end Cert.KernelIdeal.Run
-- ==== Proof.KernelPayload.lean ====
/-
  What the kernel computes from a full accumulator, at an index, over the extended reals: the three experts' hidden
  layers, each scaled by a mask, and the sum of their three products with the experts' weights.
-/
module

public import proofs.«01_k».proof.Proof.KernelIdealRun
public import Idealize.ShloMosaic.Lib.Pointwise
public import Idealize.ShloMosaic.PureOps.Ideal.Laws
public import Idealize.ShloMosaic.Lib.IdealHost

@[expose] public section

set_option maxRecDepth 8192

noncomputable section

namespace Cert.KernelIdeal.Value

open Cert.KernelIdeal Cert.KernelIdeal.Gen Cert.KernelIdeal.Run Idealize.ShloMosaic

/-! ## The accumulator -/

/-- The accumulator starts at zero. -/
theorem zero_apply (i : Fin 16) (c : Fin 3) : k0_pay1 (F := Ideal) (ix2 i c) = 0 := by
  pointwise [k0_pay1]

/-- One point adds the block's pixels to the accumulator. -/
theorem addBlock_apply (A : FVec Ideal S16x3 .f32) (x : FVec Ideal S16x3x64x512 .f32) (i : Fin 16) (c : Fin 3) :
    k0_pay2 (F := Ideal) A x (ix2 i c) = A (ix2 i c) + ∑ h : Fin 64, ∑ w : Fin 512, x (ix4 i c h w) := by
  pointwise [k0_pay2]

/-- The bit pattern of one over the number of pixels in one channel. -/
theorem share_value : Ideal.ofBits .f32 0x36800000#32 = ((1 / 262144 : ℝ) : EReal) := by
  simp [Ideal.ofBits, Ideal.ieee, -EReal.coe_mul]; norm_num

/-- The accumulator scaled to a mean. -/
theorem scaled_apply (A : FVec Ideal S16x3 .f32) (i : Fin 16) (c : Fin 3) :
    k0_pay6 (F := Ideal) A (ix2 i c) = A (ix2 i c) * ((1 / 262144 : ℝ) : EReal) := by
  pointwise [k0_pay6]
  rw [share_value]

/-! ## The scores and the masks -/

/-- The classifier's score of an expert. -/
theorem score_apply (A : FVec Ideal S16x3 .f32) (Wc : FVec Ideal S3x3 .f32) (bc : FVec Ideal S1x3 .f32) (i : Fin 16) (k : Fin 3) :
    k0_pay7 (F := Ideal) A Wc bc (ix2 i k) = (∑ c : Fin 3, k0_pay6 (F := Ideal) A (ix2 i c) * Wc (ix2 c k)) + bc (ix2 0 k) := by
  pointwise [k0_pay7]

/-- Two conditions joined, widened and converted to a number: one when both hold, zero otherwise. -/
theorem both_value (p q : Prop) [Decidable p] [Decidable q] :
    FloatOps.sitofp (F := Ideal) FTy.f32 (BitVec.setWidth 32 (IntOp.andi (BitVec.ofBool (decide p)) (BitVec.ofBool (decide q))))
      = if p ∧ q then 1 else 0 := by
  show (((BitVec.setWidth 32 (BitVec.ofBool (decide p) &&& BitVec.ofBool (decide q))).toInt : ℝ) : EReal) = _
  by_cases hp : p <;> by_cases hq : q <;> simp [hp, hq]

/-- The first expert's mask. -/
theorem mask0_apply (A : FVec Ideal S16x3 .f32) (Wc : FVec Ideal S3x3 .f32) (bc : FVec Ideal S1x3 .f32) (i : Fin 16) :
    k0_pay11 (F := Ideal) A Wc bc (ix2 i 0) = if k0_pay7 (F := Ideal) A Wc bc (ix2 i 1) ≤ k0_pay7 (F := Ideal) A Wc bc (ix2 i 0)
      ∧ k0_pay7 (F := Ideal) A Wc bc (ix2 i 2) ≤ k0_pay7 (F := Ideal) A Wc bc (ix2 i 0) then 1 else 0 := by
  pointwise [k0_pay11, k0_pay8, k0_pay9, k0_pay10]
  exact both_value _ _

/-- The second expert's mask. -/
theorem mask1_apply (A : FVec Ideal S16x3 .f32) (Wc : FVec Ideal S3x3 .f32) (bc : FVec Ideal S1x3 .f32) (i : Fin 16) :
    k0_pay12 (F := Ideal) A Wc bc (ix2 i 0) = if k0_pay7 (F := Ideal) A Wc bc (ix2 i 0) < k0_pay7 (F := Ideal) A Wc bc (ix2 i 1)
      ∧ k0_pay7 (F := Ideal) A Wc bc (ix2 i 2) ≤ k0_pay7 (F := Ideal) A Wc bc (ix2 i 1) then 1 else 0 := by
  pointwise [k0_pay12, k0_pay8, k0_pay9, k0_pay10]
  exact both_value _ _

/-- The third expert's mask. -/
theorem mask2_apply (A : FVec Ideal S16x3 .f32) (Wc : FVec Ideal S3x3 .f32) (bc : FVec Ideal S1x3 .f32) (i : Fin 16) :
    k0_pay13 (F := Ideal) A Wc bc (ix2 i 0) = if k0_pay7 (F := Ideal) A Wc bc (ix2 i 0) < k0_pay7 (F := Ideal) A Wc bc (ix2 i 2)
      ∧ k0_pay7 (F := Ideal) A Wc bc (ix2 i 1) < k0_pay7 (F := Ideal) A Wc bc (ix2 i 2) then 1 else 0 := by
  pointwise [k0_pay13, k0_pay8, k0_pay9, k0_pay10]
  exact both_value _ _

/-! ## The experts' hidden layers and the results -/

/-- An expert's hidden unit from the accumulator. -/
def unitOf (A : FVec Ideal S16x3 .f32) (W1 : FVec Ideal S3x3x768 .f32) (b1 : FVec Ideal S3x768 .f32) (i : Fin 16) (p : Fin 3) (k : Fin 768) : EReal :=
  max ((∑ c : Fin 3, k0_pay6 (F := Ideal) A (ix2 i c) * W1 (ix3 p c k)) + b1 (ix2 p k)) 0

/-- The first expert's masked hidden layer. -/
theorem weighed0_apply (A : FVec Ideal S16x3 .f32) (v : FVec Ideal S16x1 .f32) (W1 : FVec Ideal S3x3x768 .f32) (b1 : FVec Ideal S3x768 .f32)
    (i : Fin 16) (k : Fin 768) :
    k0_pay17 (F := Ideal) v (k0_pay16 A (w1At0 W1) (b1At0 b1)) 0 (ix2 i k) = unitOf A W1 b1 i 0 k * v (ix2 i 0) := by
  unfold unitOf
  pointwise [k0_pay17, k0_pay16, w1At0, b1At0]

/-- The second expert's masked hidden layer. -/
theorem weighed1_apply (A : FVec Ideal S16x3 .f32) (v : FVec Ideal S16x1 .f32) (W1 : FVec Ideal S3x3x768 .f32) (b1 : FVec Ideal S3x768 .f32)
    (i : Fin 16) (k : Fin 768) :
    k0_pay18 (F := Ideal) (k0_pay6 A) v (w1At1 W1) (b1At1 b1) (ix2 i k) = unitOf A W1 b1 i 1 k * v (ix2 i 0) := by
  unfold unitOf
  pointwise [k0_pay18, w1At1, b1At1]

/-- The kernel's logits at an index: three masked products. -/
theorem logitsOf_apply (A : FVec Ideal S16x3 .f32) (Wc : FVec Ideal S3x3 .f32) (bc : FVec Ideal S1x3 .f32)
    (W1 : FVec Ideal S3x3x768 .f32) (b1 : FVec Ideal S3x768 .f32) (w : FVec Ideal S3x200x768 .f32) (i : Fin 16) (l : Fin 200) :
    logitsOf (F := Ideal) A Wc bc W1 b1 w (ix2 i l)
      = (∑ k : Fin 768, unitOf A W1 b1 i 0 k * k0_pay11 (F := Ideal) A Wc bc (ix2 i 0) * w (ix3 0 l k))
        + (∑ k : Fin 768, unitOf A W1 b1 i 1 k * k0_pay12 (F := Ideal) A Wc bc (ix2 i 0) * w (ix3 1 l k))
        + (∑ k : Fin 768, unitOf A W1 b1 i 2 k * k0_pay13 (F := Ideal) A Wc bc (ix2 i 0) * w (ix3 2 l k)) := by
  pointwise [logitsOf, k0_pay4, k0_pay3, k0_pay19, k0_pay14, k0_pay21, wlAt0, wlAt1, wlAt2, w1At2, b1At2]
  simp only [weighed0_apply, weighed1_apply]
  rfl

/-- The kernel's boxes at an index: the logistic function of three masked products. -/
theorem boxesOf_apply (A : FVec Ideal S16x3 .f32) (Wc : FVec Ideal S3x3 .f32) (bc : FVec Ideal S1x3 .f32)
    (W1 : FVec Ideal S3x3x768 .f32) (b1 : FVec Ideal S3x768 .f32) (w : FVec Ideal S3x400x768 .f32) (i : Fin 16) (l : Fin 400) :
    boxesOf (F := Ideal) A Wc bc W1 b1 w (ix2 i l)
      = Ideal.logistic ((∑ k : Fin 768, unitOf A W1 b1 i 0 k * k0_pay11 (F := Ideal) A Wc bc (ix2 i 0) * w (ix3 0 l k))
        + (∑ k : Fin 768, unitOf A W1 b1 i 1 k * k0_pay12 (F := Ideal) A Wc bc (ix2 i 0) * w (ix3 1 l k))
        + (∑ k : Fin 768, unitOf A W1 b1 i 2 k * k0_pay13 (F := Ideal) A Wc bc (ix2 i 0) * w (ix3 2 l k))) := by
  pointwise [boxesOf, k0_pay5, k0_pay3, k0_pay20, k0_pay15, k0_pay21, wbAt0, wbAt1, wbAt2, w1At2, b1At2]
  simp only [weighed0_apply, weighed1_apply]
  rfl

end Cert.KernelIdeal.Value
-- ==== Proof.ReferenceValue.lean ====
/-
  What the reference computes from its arguments, at an index, over the extended reals: the mean of every channel, the
  three scores and the expert with the largest, and that expert's hidden layer against its own weights.
-/
module

public import proofs.«01_k».proof.Proof.ReferenceRun
public import Idealize.ShloMosaic.Lib.Pointwise
public import Idealize.ShloMosaic.PureOps.Ideal.Laws
public import Idealize.ShloMosaic.Lib.IdealHost

@[expose] public section

set_option maxRecDepth 8192

noncomputable section

namespace Cert.ReferenceIdeal.Value

open Cert.ReferenceIdeal Cert.ReferenceIdeal.Gen Cert.ReferenceIdeal.Run Idealize.ShloMosaic

/-- A gather of whole leading slices of a rank-three table, read at an index: the slice is the one its start names. -/
theorem slice3_apply {α : Type} {n R A B : ℕ}
    (wf : GatherDims.WF ⟨3, ![n, A, B]⟩ ⟨2, ![R, 1]⟩ ⟨3, ![R, A, B]⟩ [1, 2] [0] [] [0] [] 1 ![1, A, B])
    (x : (⟨3, ![n, A, B]⟩ : Shape).Idx → α) (idx : IVec ⟨2, ![R, 1]⟩ 32) (r : Fin R) (a : Fin A) (b : Fin B) (p : Fin n)
    (hp : (idx (ix2 r 0)).toInt.toNat = p.val) :
    Host.gather (⟨[1, 2], [0], [], [], [0], 1, ![1, A, B], wf⟩ : GatherDims _ _ _) x idx (ix3 r a b) = x (ix3 p a b) := by
  unfold Host.gather
  refine congrArg x (funext fun ax => Fin.ext ?_)
  have hl : (idx (ix2 r 0)).toInt.toNat ≤ n - 1 := by have := p.isLt; omega
  match ax with
  | ⟨0, _⟩ =>
    refine Eq.trans (b := min (idx (ix2 r 0)).toInt.toNat (n - 1)) ?_ ((Nat.min_eq_left hl).trans hp)
    exact congrArg (fun z => min (idx z).toInt.toNat (n - 1)) (funext fun bx => Fin.ext (match bx with
      | ⟨0, _⟩ => rfl
      | ⟨1, _⟩ => rfl))
  | ⟨1, _⟩ => exact (show 0 + 0 + a.val = a.val by omega)
  | ⟨2, _⟩ => exact (show 0 + 0 + b.val = b.val by omega)

/-- A gather of whole rows of a rank-two table, read at an index: the row is the one its start names. -/
theorem slice2_apply {α : Type} {n R A : ℕ}
    (wf : GatherDims.WF ⟨2, ![n, A]⟩ ⟨2, ![R, 1]⟩ ⟨2, ![R, A]⟩ [1] [0] [] [0] [] 1 ![1, A])
    (x : (⟨2, ![n, A]⟩ : Shape).Idx → α) (idx : IVec ⟨2, ![R, 1]⟩ 32) (r : Fin R) (a : Fin A) (p : Fin n)
    (hp : (idx (ix2 r 0)).toInt.toNat = p.val) :
    Host.gather (⟨[1], [0], [], [], [0], 1, ![1, A], wf⟩ : GatherDims _ _ _) x idx (ix2 r a) = x (ix2 p a) := by
  unfold Host.gather
  refine congrArg x (funext fun ax => Fin.ext ?_)
  have hl : (idx (ix2 r 0)).toInt.toNat ≤ n - 1 := by have := p.isLt; omega
  match ax with
  | ⟨0, _⟩ =>
    refine Eq.trans (b := min (idx (ix2 r 0)).toInt.toNat (n - 1)) ?_ ((Nat.min_eq_left hl).trans hp)
    exact congrArg (fun z => min (idx z).toInt.toNat (n - 1)) (funext fun bx => Fin.ext (match bx with
      | ⟨0, _⟩ => rfl
      | ⟨1, _⟩ => rfl))
  | ⟨1, _⟩ => exact (show 0 + 0 + a.val = a.val by omega)

/-- The bit pattern of the number of pixels in one channel. -/
theorem pixels_value : Ideal.ofBits .f32 0x48800000#32 = ((262144 : ℝ) : EReal) := by
  simp [Ideal.ofBits, Ideal.ieee, -EReal.coe_mul]; norm_num

/-- The start of a gather is the expert's number. -/
theorem start_apply (idx : Vec Ideal S16 .i32) (i : Fin 16) (z : Fin 1) (p : Fin 3) (h : idx (ix1 i) = BitVec.ofNat 32 p.val) :
    startOf (F := Ideal) idx (ix2 i z) = BitVec.ofNat 32 p.val := by
  pointwise [startOf]
  rw [h]
  clear h; revert p; decide

/-- A start below three is inside the table. -/
theorem inside_apply (s : Vec Ideal S16x1 .i32) (i : Fin 16) (p : Fin 3) (h : s (ix2 i 0) = BitVec.ofNat 32 p.val) :
    insideOf (F := Ideal) s (ix1 i) = 1#1 := by
  pointwise [insideOf]
  rw [Finset.univ_unique, Finset.fold_singleton]
  show IntOp.andi (IntOp.andi (IntOp.cmpi .sge (s (ix2 i 0)) 0#32) (IntOp.cmpi .sle (s (ix2 i 0)) 2#32)) 1#1 = 1#1
  rw [h]
  clear h; revert p; decide

/-- The row of a `16 × 3` array listed in its row-major order. -/
theorem row_list : ∀ i : Fin 16, ((List.finRange S16x3.numel).filter fun n => reducesTo_S16x3_S16_d1.drop (S16x3.rowMajor.symm n) = ix1 i).map
    (fun n => S16x3.rowMajor.symm n) = [ix2 i 0, ix2 i 1, ix2 i 2] := by
  decide +kernel

/-- The number of the largest of three scores, the first of several equal ones. -/
def pick (a b c : EReal) : Fin 3 := if b ≤ a ∧ c ≤ a then 0 else if a < b ∧ c ≤ b then 1 else 2

/-- One step of the search for the largest score: the earlier pair stays when its score is larger, or is equal and its
    number is smaller. -/
theorem reducer_apply (x y : EReal) (i j : BitVec 32) :
    reducer_argmax_f32_i32 (F := Ideal) (x, i) (y, j) = if y < x ∨ (x = y ∧ i.slt j) then (x, i) else (y, j) := by
  unfold reducer_argmax_f32_i32
  simp only [Ideal.cmpf_def, Ideal.cmp]
  by_cases h1 : y < x
  · simp [h1, h1.ne', Scalar.select, IntOp.ori, IntOp.andi]
  · by_cases h2 : x = y
    · subst h2
      by_cases h3 : i.slt j = true
      · simp [h3, Scalar.select, IntOp.ori, IntOp.andi, IntOp.cmpi]
      · simp [h3, Scalar.select, IntOp.ori, IntOp.andi, IntOp.cmpi]
    · simp [h1, h2, Scalar.select, IntOp.ori, IntOp.andi]

/-- The search over three scores from an initial score that is smallest. -/
theorem search_apply (a b c : EReal) :
    ([(a, 0#32), (b, 1#32), (c, 2#32)].foldl (reducer_argmax_f32_i32 (F := Ideal)) (⊥, 0#32)).2 = BitVec.ofNat 32 (pick a b c).val := by
  have h0 : reducer_argmax_f32_i32 (F := Ideal) (⊥, 0#32) (a, 0#32) = (a, 0#32) := by
    rw [reducer_apply]; simp
  simp only [List.foldl_cons, List.foldl_nil, h0]
  have e01 : (0#32).slt 1#32 = true := by decide
  have e02 : (0#32).slt 2#32 = true := by decide
  have e12 : (1#32).slt 2#32 = true := by decide
  rw [reducer_apply a b]
  unfold pick
  by_cases h1 : b ≤ a
  · rw [if_pos (by rcases lt_or_eq_of_le h1 with h | h; exact .inl h; exact .inr ⟨h.symm, e01⟩), reducer_apply]
    by_cases h2 : c ≤ a
    · rw [if_pos (by rcases lt_or_eq_of_le h2 with h | h; exact .inl h; exact .inr ⟨h.symm, e02⟩), if_pos ⟨h1, h2⟩]; rfl
    · rw [if_neg (by rintro (h | h); exact h2 h.le; exact h2 h.1.ge), if_neg (fun h => h2 h.2), if_neg (fun h => absurd h.1 (not_lt.2 h1))]; rfl
  · rw [if_neg (by rintro (h | h); exact h1 h.le; exact h1 h.1.ge), reducer_apply, if_neg (c := b ≤ a ∧ c ≤ a) (fun h => h1 h.1)]
    by_cases h2 : c ≤ b
    · rw [if_pos (by rcases lt_or_eq_of_le h2 with h | h; exact .inl h; exact .inr ⟨h.symm, e12⟩), if_pos ⟨not_le.1 h1, h2⟩]; rfl
    · rw [if_neg (by rintro (h | h); exact h2 h.le; exact h2 h.1.ge), if_neg (fun h => h2 h.2)]; rfl

/-- The bit pattern of minus infinity. -/
theorem lowest_value : Ideal.ofBits .f32 0xFF800000#32 = ⊥ := by
  simp [Ideal.ofBits, Ideal.ieee]

/-- The index the reference finds is that of the largest of the row's three scores. -/
theorem index_apply (s : FVec Ideal S16x3 .f32) (i : Fin 16) :
    indexOf (F := Ideal) s (ix1 i) = BitVec.ofNat 32 (pick (s (ix2 i 0)) (s (ix2 i 1)) (s (ix2 i 2))).val := by
  unfold indexOf
  rw [Ideal.argReduce_eq_reduce2, Host.reduce2_eq_foldl_fiber]
  unfold Host.argReduceFiber
  have e : ((List.finRange S16x3.numel).filter fun n => reducesTo_S16x3_S16_d1.drop (S16x3.rowMajor.symm n) = ix1 i).map
      (fun n => (s (S16x3.rowMajor.symm n), iotaInDim S16x3 32 1 (S16x3.rowMajor.symm n)))
      = [(s (ix2 i 0), 0#32), (s (ix2 i 1), 1#32), (s (ix2 i 2), 2#32)] := by
    have := congrArg (List.map fun j => (s j, iotaInDim S16x3 32 1 j)) (row_list i)
    rw [List.map_map] at this
    exact this
  rw [e]
  refine Eq.trans ?_ (search_apply _ _ _)
  show (List.foldl _ (Ideal.ofBits .f32 0xFF800000#32, 0#32) _).2 = _
  rw [lowest_value]

/-- The row chosen for an image. -/
abbrev chosen (s : FVec Ideal S16x3 .f32) (i : Fin 16) : Fin 3 := pick (s (ix2 i 0)) (s (ix2 i 1)) (s (ix2 i 2))

/-- Three words below three, read as signed numbers. -/
theorem toNat_word : ∀ p : Fin 3, (BitVec.ofNat 32 p.val).toInt.toNat = p.val := by decide

/-- The taken first weights are the chosen expert's. -/
theorem takeFirst_apply (x : FVec Ideal S3x3x768 .f32) (idx : Vec Ideal S16 .i32) (i : Fin 16) (p : Fin 3)
    (h : idx (ix1 i) = BitVec.ofNat 32 p.val) (c : Fin 3) (k : Fin 768) :
    takeFirst (F := Ideal) x idx (ix3 i c k) = x (ix3 p c k) := by
  pointwise [takeFirst]
  rw [inside_apply _ i p (start_apply idx i 0 p h)]
  exact slice3_apply _ x _ i c k p ((congrArg (fun w => w.toInt.toNat) (start_apply idx i 0 p h)).trans (toNat_word p))

/-- The taken first bias is the chosen expert's. -/
theorem takeFirstBias_apply (x : FVec Ideal S3x768 .f32) (idx : Vec Ideal S16 .i32) (i : Fin 16) (p : Fin 3)
    (h : idx (ix1 i) = BitVec.ofNat 32 p.val) (k : Fin 768) :
    takeFirstBias (F := Ideal) x idx (ix2 i k) = x (ix2 p k) := by
  pointwise [takeFirstBias]
  rw [inside_apply _ i p (start_apply idx i 0 p h)]
  exact slice2_apply _ x _ i k p ((congrArg (fun w => w.toInt.toNat) (start_apply idx i 0 p h)).trans (toNat_word p))

/-- The taken logits weights are the chosen expert's. -/
theorem takeLogits_apply (x : FVec Ideal S3x768x200 .f32) (idx : Vec Ideal S16 .i32) (i : Fin 16) (p : Fin 3)
    (h : idx (ix1 i) = BitVec.ofNat 32 p.val) (k : Fin 768) (l : Fin 200) :
    takeLogits (F := Ideal) x idx (ix3 i k l) = x (ix3 p k l) := by
  pointwise [takeLogits]
  rw [inside_apply _ i p (start_apply idx i 0 p h)]
  exact slice3_apply _ x _ i k l p ((congrArg (fun w => w.toInt.toNat) (start_apply idx i 0 p h)).trans (toNat_word p))

/-- The taken boxes weights are the chosen expert's. -/
theorem takeBoxes_apply (x : FVec Ideal S3x768x400 .f32) (idx : Vec Ideal S16 .i32) (i : Fin 16) (p : Fin 3)
    (h : idx (ix1 i) = BitVec.ofNat 32 p.val) (k : Fin 768) (l : Fin 400) :
    takeBoxes (F := Ideal) x idx (ix3 i k l) = x (ix3 p k l) := by
  pointwise [takeBoxes]
  rw [inside_apply _ i p (start_apply idx i 0 p h)]
  exact slice3_apply _ x _ i k l p ((congrArg (fun w => w.toInt.toNat) (start_apply idx i 0 p h)).trans (toNat_word p))

/-- The mean of a channel: the sum of its pixels over their number. -/
def mean (x : FVec Ideal S16x3x512x512 .f32) (i : Fin 16) (c : Fin 3) : EReal :=
  (∑ h : Fin 512, ∑ w : Fin 512, x (ix4 i c h w)) * ((1 / 262144 : ℝ) : EReal)

/-- The reference's pooled pixels are the means. -/
theorem mean_apply (x : FVec Ideal S16x3x512x512 .f32) (i : Fin 16) (c : Fin 3) :
    meanOf (F := Ideal) x (ix2 i c) = mean x i c := by
  pointwise [meanOf]
  rw [pixels_value]
  unfold Ideal.div mean
  rw [if_neg (by norm_num), ← EReal.coe_inv]
  norm_num

/-- The reference's scores: the means against the classifier's weights, and its bias. -/
theorem scores_apply (mean : FVec Ideal S16x3 .f32) (Wc : FVec Ideal S3x3 .f32) (bc : FVec Ideal S3 .f32) (i : Fin 16) (k : Fin 3) :
    scoresOf (F := Ideal) mean Wc bc (ix2 i k) = (∑ c : Fin 3, mean (ix2 i c) * Wc (ix2 c k)) + bc (ix1 k) := by
  pointwise [scoresOf]

/-- The reference's hidden layer: the means against the taken weights, and the taken bias, cut off below zero. -/
theorem hidden_apply (mean : FVec Ideal S16x3 .f32) (w : FVec Ideal S16x3x768 .f32) (b : FVec Ideal S16x768 .f32) (i : Fin 16) (k : Fin 768) :
    hiddenOf (F := Ideal) mean w b (ix2 i k) = max ((∑ c : Fin 3, mean (ix2 i c) * w (ix3 i c k)) + b (ix2 i k)) 0 := by
  pointwise [hiddenOf]

/-- The reference's logits: the hidden layer against the taken weights. -/
theorem logits_apply (h : FVec Ideal S16x768 .f32) (w : FVec Ideal S16x768x200 .f32) (i : Fin 16) (l : Fin 200) :
    flatLogits (F := Ideal) h w (ix2 i l) = ∑ k : Fin 768, h (ix2 i k) * w (ix3 i k l) := by
  pointwise [flatLogits]

/-- The reference's boxes: the logistic of the hidden layer against the taken weights. -/
theorem boxes_apply (h : FVec Ideal S16x768 .f32) (w : FVec Ideal S16x768x400 .f32) (i : Fin 16) (l : Fin 400) :
    flatBoxes (F := Ideal) h w (ix2 i l) = Ideal.logistic (∑ k : Fin 768, h (ix2 i k) * w (ix3 i k l)) := by
  pointwise [flatBoxes]
  rfl

/-- The classifier's score of an expert for an image. -/
def score (x : FVec Ideal S16x3x512x512 .f32) (Wc : FVec Ideal S3x3 .f32) (bc : FVec Ideal S3 .f32) (i : Fin 16) (k : Fin 3) : EReal :=
  (∑ c : Fin 3, mean x i c * Wc (ix2 c k)) + bc (ix1 k)

/-- The expert chosen for an image. -/
def expert (x : FVec Ideal S16x3x512x512 .f32) (Wc : FVec Ideal S3x3 .f32) (bc : FVec Ideal S3 .f32) (i : Fin 16) : Fin 3 :=
  pick (score x Wc bc i 0) (score x Wc bc i 1) (score x Wc bc i 2)

/-- The hidden unit of an expert for an image. -/
def hiddenUnit (x : FVec Ideal S16x3x512x512 .f32) (W1 : FVec Ideal S3x3x768 .f32) (b1 : FVec Ideal S3x768 .f32) (i : Fin 16) (p : Fin 3) (k : Fin 768) : EReal :=
  max ((∑ c : Fin 3, mean x i c * W1 (ix3 p c k)) + b1 (ix2 p k)) 0

/-- The index the reference finds from the arguments is the chosen expert's. -/
theorem index_eq (x : FVec Ideal S16x3x512x512 .f32) (Wc : FVec Ideal S3x3 .f32) (bc : FVec Ideal S3 .f32) (i : Fin 16) :
    indexOf (F := Ideal) (scoresOf (meanOf x) Wc bc) (ix1 i) = BitVec.ofNat 32 (expert x Wc bc i).val := by
  have h : ∀ k : Fin 3, scoresOf (F := Ideal) (meanOf x) Wc bc (ix2 i k) = score x Wc bc i k := fun k => by
    rw [scores_apply]; simp only [mean_apply]; rfl
  rw [index_apply, h, h, h]; rfl

/-- The reference's hidden layer from the arguments is the chosen expert's. -/
theorem hiddenAll_apply (x : FVec Ideal S16x3x512x512 .f32) (Wc : FVec Ideal S3x3 .f32) (bc : FVec Ideal S3 .f32)
    (W1 : FVec Ideal S3x3x768 .f32) (b1 : FVec Ideal S3x768 .f32) (i : Fin 16) (k : Fin 768) :
    hiddenAll (F := Ideal) x Wc bc W1 b1 (ix2 i k) = hiddenUnit x W1 b1 i (expert x Wc bc i) k := by
  unfold hiddenAll
  rw [hidden_apply, takeFirstBias_apply _ _ i _ (index_eq x Wc bc i)]
  simp only [takeFirst_apply _ _ i _ (index_eq x Wc bc i), mean_apply]
  rfl

/-- The reference's first result before its layout, at an index. -/
theorem logitsAll_apply (x : FVec Ideal S16x3x512x512 .f32) (Wc : FVec Ideal S3x3 .f32) (bc : FVec Ideal S3 .f32)
    (W1 : FVec Ideal S3x3x768 .f32) (b1 : FVec Ideal S3x768 .f32) (W2 : FVec Ideal S3x768x200 .f32) (i : Fin 16) (l : Fin 200) :
    logitsAll (F := Ideal) x Wc bc W1 b1 W2 (ix2 i l)
      = ∑ k : Fin 768, hiddenUnit x W1 b1 i (expert x Wc bc i) k * W2 (ix3 (expert x Wc bc i) k l) := by
  unfold logitsAll
  rw [logits_apply]
  simp only [hiddenAll_apply, takeLogits_apply _ _ i _ (index_eq x Wc bc i)]

/-- The reference's second result before its layout, at an index. -/
theorem boxesAll_apply (x : FVec Ideal S16x3x512x512 .f32) (Wc : FVec Ideal S3x3 .f32) (bc : FVec Ideal S3 .f32)
    (W1 : FVec Ideal S3x3x768 .f32) (b1 : FVec Ideal S3x768 .f32) (W3 : FVec Ideal S3x768x400 .f32) (i : Fin 16) (l : Fin 400) :
    boxesAll (F := Ideal) x Wc bc W1 b1 W3 (ix2 i l)
      = Ideal.logistic (∑ k : Fin 768, hiddenUnit x W1 b1 i (expert x Wc bc i) k * W3 (ix3 (expert x Wc bc i) k l)) := by
  unfold boxesAll
  rw [boxes_apply]
  simp only [hiddenAll_apply, takeBoxes_apply _ _ i _ (index_eq x Wc bc i)]

end Cert.ReferenceIdeal.Value
-- ==== Proof.Match.lean ====
/-
  The kernel's masked sum of the three experts' products is the reference's product of the chosen expert: over the
  extended reals a product with zero is zero, so the two masked-out experts add nothing whatever their values are.
-/
module

public import proofs.«01_k».proof.Proof.KernelResults
public import proofs.«01_k».proof.Proof.KernelPayload
public import proofs.«01_k».proof.Proof.ReferenceValue

@[expose] public section

set_option maxRecDepth 16384

noncomputable section

namespace Cert.Match

open Idealize.ShloMosaic Idealize.ShloMosaic.TcCoe
open Cert.KernelIdeal Cert.KernelIdeal.Gen Cert.KernelIdeal.Run Cert.KernelIdeal.Value
open Cert.ReferenceIdeal.Run (logitsAll boxesAll)
open Cert.ReferenceIdeal.Value (pick mean score expert hiddenUnit logitsAll_apply boxesAll_apply)

/-! ## The sum over the masks -/

/-- The three masks: the first, the second and the third choice. -/
theorem pick_masks (a b c : EReal) :
    (if b ≤ a ∧ c ≤ a then (1 : EReal) else 0) = (if pick a b c = 0 then 1 else 0)
      ∧ (if a < b ∧ c ≤ b then (1 : EReal) else 0) = (if pick a b c = 1 then 1 else 0)
      ∧ (if a < c ∧ b < c then (1 : EReal) else 0) = (if pick a b c = 2 then 1 else 0) := by
  unfold pick
  by_cases h0 : b ≤ a ∧ c ≤ a
  · simp [h0, not_lt.2 h0.1, not_lt.2 h0.2]
  · by_cases h1 : a < b ∧ c ≤ b
    · simp [h0, h1, not_lt.2 h1.2]
    · have h2 : a < c ∧ b < c := by
        by_cases hb : b ≤ a
        · have hc : a < c := not_le.1 fun h => h0 ⟨hb, h⟩
          exact ⟨hc, lt_of_le_of_lt hb hc⟩
        · have hc : b < c := not_le.1 fun h => h1 ⟨not_le.1 hb, h⟩
          exact ⟨(not_le.1 hb).trans hc, hc⟩
      simp only [if_neg h0, if_neg h1, if_pos h2]
      simp

/-- A sum with one weight of one and two of zero is the sum of the weight of one. -/
theorem masked_sum {n : ℕ} (p : Fin 3) (u w : Fin 3 → Fin n → EReal) :
    (∑ k, u 0 k * (if p = 0 then 1 else 0) * w 0 k) + (∑ k, u 1 k * (if p = 1 then 1 else 0) * w 1 k)
      + (∑ k, u 2 k * (if p = 2 then 1 else 0) * w 2 k) = ∑ k, u p k * w p k := by
  match p with
  | 0 => simp
  | 1 => simp
  | 2 => simp

/-! ## The two computations -/

variable (x : FVec Ideal S16x3x512x512 .f32) (Wc : FVec Ideal S3x3 .f32) (bc : FVec Ideal S3 .f32)
  (W1 : FVec Ideal S3x3x768 .f32) (b1 : FVec Ideal S3x768 .f32) (W2 : FVec Ideal S3x768x200 .f32) (W3 : FVec Ideal S3x768x400 .f32)
  (A : FVec Ideal S16x3 .f32) (hA : ∀ i c, A (ix2 i c) = ∑ h : Fin 512, ∑ w : Fin 512, x (ix4 i c h w))

include hA

/-- The scaled accumulator is the mean. -/
theorem mean_eq (i : Fin 16) (c : Fin 3) : k0_pay6 (F := Ideal) A (ix2 i c) = mean x i c := by
  rw [scaled_apply, hA]
  rfl

/-- The kernel's scores are the reference's. -/
theorem score_eq (i : Fin 16) (k : Fin 3) :
    k0_pay7 (F := Ideal) A Wc (shapeCast S1x3 bc shapeCasts_S3_S1x3) (ix2 i k) = score x Wc bc i k := by
  rw [score_apply]
  simp only [mean_eq x A hA]
  unfold score
  congr 1
  pointwise []

/-- The kernel's hidden units are the reference's. -/
theorem unit_eq (i : Fin 16) (p : Fin 3) (k : Fin 768) : unitOf A W1 b1 i p k = hiddenUnit x W1 b1 i p k := by
  unfold unitOf
  simp only [mean_eq x A hA]
  rfl

/-- The three masks mark the chosen expert. -/
theorem masks_eq (i : Fin 16) :
    k0_pay11 (F := Ideal) A Wc (shapeCast S1x3 bc shapeCasts_S3_S1x3) (ix2 i 0) = (if expert x Wc bc i = 0 then 1 else 0)
      ∧ k0_pay12 (F := Ideal) A Wc (shapeCast S1x3 bc shapeCasts_S3_S1x3) (ix2 i 0) = (if expert x Wc bc i = 1 then 1 else 0)
      ∧ k0_pay13 (F := Ideal) A Wc (shapeCast S1x3 bc shapeCasts_S3_S1x3) (ix2 i 0) = (if expert x Wc bc i = 2 then 1 else 0) := by
  rw [mask0_apply, mask1_apply, mask2_apply]
  simp only [score_eq x Wc bc A hA]
  exact pick_masks _ _ _

/-- The logits agree. -/
theorem logits_eq :
    logitsOf (F := Ideal) A Wc (shapeCast S1x3 bc shapeCasts_S3_S1x3) W1 b1
        (transpose S3x200x768 [0, 2, 1] W2 transposes_S3x768x200_S3x200x768_0_2_1)
      = logitsAll (F := Ideal) x Wc bc W1 b1 W2 := by
  funext j
  obtain ⟨i, l, rfl⟩ : ∃ (i : Fin 16) (l : Fin 200), j = ix2 i l := ⟨j 0, j 1, (ix2_eta j).symm⟩
  obtain ⟨h0, h1, h2⟩ := masks_eq x Wc bc A hA i
  have hw : ∀ (p : Fin 3) (k : Fin 768), transpose S3x200x768 [0, 2, 1] W2 transposes_S3x768x200_S3x200x768_0_2_1 (ix3 p l k) = W2 (ix3 p k l) := by
    intro p k
    pointwise []
  rw [logitsOf_apply, h0, h1, h2]
  simp only [unit_eq x W1 b1 A hA, hw]
  refine Eq.trans ?_ (logitsAll_apply x Wc bc W1 b1 W2 i l).symm
  exact masked_sum (expert x Wc bc i) (hiddenUnit x W1 b1 i) (fun p k => W2 (ix3 p k l))

/-- The boxes agree. -/
theorem boxes_eq :
    boxesOf (F := Ideal) A Wc (shapeCast S1x3 bc shapeCasts_S3_S1x3) W1 b1
        (transpose S3x400x768 [0, 2, 1] W3 transposes_S3x768x400_S3x400x768_0_2_1)
      = boxesAll (F := Ideal) x Wc bc W1 b1 W3 := by
  funext j
  obtain ⟨i, l, rfl⟩ : ∃ (i : Fin 16) (l : Fin 400), j = ix2 i l := ⟨j 0, j 1, (ix2_eta j).symm⟩
  obtain ⟨h0, h1, h2⟩ := masks_eq x Wc bc A hA i
  have hw : ∀ (p : Fin 3) (k : Fin 768), transpose S3x400x768 [0, 2, 1] W3 transposes_S3x768x400_S3x400x768_0_2_1 (ix3 p l k) = W3 (ix3 p k l) := by
    intro p k
    pointwise []
  rw [boxesOf_apply, h0, h1, h2]
  simp only [unit_eq x W1 b1 A hA, hw]
  refine Eq.trans ?_ (boxesAll_apply x Wc bc W1 b1 W3 i l).symm
  exact congrArg Ideal.logistic (masked_sum (expert x Wc bc i) (hiddenUnit x W1 b1 i) (fun p k => W3 (ix3 p k l)))

omit hA

/-! ## The kernel's accumulator and its last point -/

variable (m : (ℓ : Loc nD τ sig) → Buf (Elt Ideal) ℓ)

/-- The pixels the program is launched with. -/
abbrev pixels (c : Dev nD) : FVec Ideal S16x3x512x512 .f32 := m ((c : Thread nD τ).loc main_arg0)

/-- The accumulator after some points: the rows those points read, summed. -/
theorem sum_points (c : Dev nD) (i : Fin 16) (k : Fin 3) (n : ℕ) (hn : n ≤ 8) :
    accAt m c n (ix2 i k) = ∑ j : Fin n, ∑ h : Fin 64, ∑ w : Fin 512,
      pixels m c (ix4 i k ⟨j.val * 64 + h.val, by have := j.isLt; have := h.isLt; omega⟩ w) := by
  induction n with
  | zero => rw [Finset.univ_eq_empty, Finset.sum_empty]; exact zero_apply i k
  | succ n ih =>
    have hs := accAt_succ m c ⟨n, Nat.lt_of_lt_of_eq hn N_0.symm⟩
    rw [← hs, addBlock_apply, ih (Nat.le_of_succ_le hn)]
    simp only [blk0_apply]
    exact (Fin.sum_univ_castSucc (M := EReal) fun j : Fin (n + 1) => ∑ h : Fin 64, ∑ w : Fin 512,
      pixels m c (ix4 i k ⟨j.val * 64 + h.val, by have := j.isLt; have := h.isLt; omega⟩ w)).symm

/-- The accumulator at the end: every pixel of the channel, summed. -/
theorem sum_pixels (c : Dev nD) (i : Fin 16) (k : Fin 3) :
    accAt m c 8 (ix2 i k) = ∑ h : Fin 512, ∑ w : Fin 512, pixels m c (ix4 i k h w) := by
  rw [sum_points m c i k 8 le_rfl]
  exact (Fin.sum_univ_tiles 8 64 (by norm_num) (fun h : Fin 512 => ∑ w : Fin 512, pixels m c (ix4 i k h w))).symm

/-- The last point's logits are the reference's. -/
theorem logits_last (c : Dev nD) : logitsAt m c t0_7
    = logitsAll (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold logitsAt
  rw [blk1_eq, blk2_eq, blk3_eq, blk4_eq, entry_logits]
  exact logits_eq _ _ _ _ _ _ _ (sum_pixels m c)

/-- The last point's boxes are the reference's. -/
theorem boxes_last (c : Dev nD) : boxesAt m c t0_7
    = boxesAll (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6)) := by
  unfold boxesAt
  rw [blk1_eq, blk2_eq, blk3_eq, blk4_eq, entry_boxes]
  exact boxes_eq _ _ _ _ _ _ _ (sum_pixels m c)

/-- The kernel's first result is the reference's. -/
theorem logits_result (c : Dev nD) : finalV m c main_v0_0 = shapeCast S16x100x2 (logitsAll (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))) shapeCasts_S16x200_S16x100x2 := by
  rw [final_logits, logits_last]

/-- The kernel's second result is the reference's. -/
theorem boxes_result (c : Dev nD) : finalV m c main_v0_1 = shapeCast S16x100x4 (boxesAll (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg6))) shapeCasts_S16x400_S16x100x4 := by
  rw [final_boxes, boxes_last]

end Cert.Match
-- ==== Proof.lean ====
/-
  The five claims about the kernel: the three programs leave their arguments as launched and every counter at zero, the
  kernel read over the extended reals is its own text with no operation replaced, and on the same arguments it ends with
  the reference's two results. The runs come from the modules of that name, the equality of the results from `Match`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.KernelIdealRun
public import proofs.«01_k».proof.Proof.ReferenceRun
public import proofs.«01_k».proof.Proof.Match
public import Idealize.ShloMosaic.Adequacy
public import Idealize.ShloMosaic.Init

@[expose] public section

noncomputable section

namespace Cert.Proof

open Idealize.ShloMosaic Idealize.SL.Sem Cert.Kernel

/-- The kernel leaves its arguments as launched and every counter at zero. -/
theorem kernel_frame : Cert.quiescent_Kernel (hKernel := Cert.Kernel.Gen.facts) := fun m g _ =>
  (θ_run _ _ _).mono (fun _ h => ⟨fun c => (h.1 c).2, h.2⟩) (Cert.Kernel.Run.run_args m g)

/-- So does the kernel over the extended reals. -/
theorem kernelIdeal_frame : Cert.quiescent_KernelIdeal (hKernelIdeal := Cert.KernelIdeal.Gen.facts) := fun m g _ =>
  (θ_run _ _ _).mono (fun _ h => ⟨fun c => (h.1 c).2, h.2⟩) (Cert.KernelIdeal.Run.run_args m g)

/-- So does the reference over the extended reals. -/
theorem referenceIdeal_frame : Cert.quiescent_ReferenceIdeal (hReferenceIdeal := Cert.ReferenceIdeal.Gen.facts) := fun m g _ =>
  (θ_run _ _ _).mono (fun _ h => ⟨fun c => (h.1 c).2, h.2⟩) (Cert.ReferenceIdeal.Run.run_args m g)

/-- On the same arguments the kernel and the reference end with the same two results. -/
theorem results : Cert.algebraic_KernelIdeal_ReferenceIdeal
    (hKernelIdeal := Cert.KernelIdeal.Gen.facts) (hReferenceIdeal := Cert.ReferenceIdeal.Gen.facts) := fun m g m' g' _ hm =>
  ⟨fun c => Cert.KernelIdeal.Run.finalV m c Cert.KernelIdeal.main_v0_0, fun c => Cert.KernelIdeal.Run.finalV m c Cert.KernelIdeal.main_v0_1,
    (θ_run _ _ _).mono (fun _ h c => ⟨(h.1 c).1.1, (h.1 c).1.2, (h.1 c).2⟩) (Cert.KernelIdeal.Run.run_args m g),
    (θ_run _ _ _).mono (fun _ h c => by
      obtain ⟨⟨hl, hb⟩, ha⟩ := h.1 c
      obtain ⟨h0, h1, h2, h3, h4, h5, h6⟩ := hm c
      rw [h0, h1, h2, h3, h4, h5] at hl
      rw [h0, h1, h2, h3, h4, h6] at hb
      exact ⟨hl.trans (Cert.Match.logits_result m c).symm, hb.trans (Cert.Match.boxes_result m c).symm, ha⟩) (Cert.ReferenceIdeal.Run.run_args m' g')⟩

/-- The five claims. -/
theorem claim : Cert.Claim := ⟨Cert.Kernel.Gen.facts, Cert.KernelIdeal.Gen.facts, Cert.ReferenceIdeal.Gen.facts,
  kernel_frame, kernelIdeal_frame, referenceIdeal_frame, trivial, results⟩

end Cert.Proof

end
